-- ==== Defs.lean ====
def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v7_0)) (v2 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v7_0) = v1 c
          ∧ r.2.mem ((c.tc : Thread Cert.KernelIdeal.nD Cert.KernelIdeal.τ).loc Cert.KernelIdeal.main_v7_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernelIdeal : Cert.KernelIdeal.Facts) (hReferenceIdeal : Cert.ReferenceIdeal.Facts) (hPre_finite : Cert.Pre_finite.Facts),
    quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ algebraic_KernelIdeal_ReferenceIdeal_pre_finite (hKernelIdeal := hKernelIdeal) (hReferenceIdeal := hReferenceIdeal) (hPre_finite := hPre_finite)
-- ==== Pre_finite.lean ====
abbrev S1024x128 : Shape := ⟨2, ![1024, 128]⟩
abbrev S100000x128 : Shape := ⟨2, ![100000, 128]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_

variable [Facts]

def fn {F : FTy → Type} [FloatOps F] (main_arg0 : FVec F S1024x128 .f32) (main_arg1 : FVec F S100000x128 .f32) (main_arg2 : FVec F S100000x128 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  main_v8
-- ==== KernelIdeal.lean ====
abbrev S1024x128 : Shape := ⟨2, ![1024, 128]⟩
abbrev S100000x128 : Shape := ⟨2, ![100000, 128]⟩
abbrev S_ : Shape := ⟨0, ![]⟩
abbrev S14688x128 : Shape := ⟨2, ![14688, 128]⟩
abbrev S114688x128 : Shape := ⟨2, ![114688, 128]⟩
abbrev S1024x114688 : Shape := ⟨2, ![1024, 114688]⟩
abbrev S2048x128 : Shape := ⟨2, ![2048, 128]⟩
abbrev S1024x2048 : Shape := ⟨2, ![1024, 2048]⟩
abbrev S1024x896x128 : Shape := ⟨3, ![1024, 896, 128]⟩
abbrev S1024x896 : Shape := ⟨2, ![1024, 896]⟩
abbrev S16x896x128 : Shape := ⟨3, ![16, 896, 128]⟩
abbrev S16x896 : Shape := ⟨2, ![16, 896]⟩
abbrev S16x896x1 : Shape := ⟨3, ![16, 896, 1]⟩
abbrev S1024x64 : Shape := ⟨2, ![1024, 64]⟩
abbrev S1024 : Shape := ⟨1, ![1024]⟩
abbrev S1024x1 : Shape := ⟨2, ![1024, 1]⟩
abbrev S1024x64x128 : Shape := ⟨3, ![1024, 64, 128]⟩
abbrev S8x64 : Shape := ⟨2, ![8, 64]⟩
abbrev S8x896x128 : Shape := ⟨3, ![8, 896, 128]⟩
abbrev S8x64x128 : Shape := ⟨3, ![8, 64, 128]⟩
abbrev S1x128 : Shape := ⟨2, ![1, 128]⟩
abbrev S1x1 : Shape := ⟨2, ![1, 1]⟩
abbrev S1x1x128 : Shape := ⟨3, ![1, 1, 128]⟩
abbrev S256x64x128 : Shape := ⟨3, ![256, 64, 128]⟩
abbrev S256x64 : Shape := ⟨2, ![256, 64]⟩
abbrev S256 : Shape := ⟨1, ![256]⟩
abbrev S256x1x1 : Shape := ⟨3, ![256, 1, 1]⟩
abbrev S256x1 : Shape := ⟨2, ![256, 1]⟩
abbrev S8x128 : Shape := ⟨2, ![8, 128]⟩

abbrev nBuf : Space → Nat
  | .hbm => 16
  | .vmem => 31
  | .smem => 6
  | _ => 0

abbrev bufTy : (tb : Table) → Fin (tcTables nBuf tb) → BufTy
  | .hbm, ⟨0, _⟩ => ⟨S1024x128, .f32⟩
  | .hbm, ⟨1, _⟩ => ⟨S100000x128, .f32⟩
  | .hbm, ⟨2, _⟩ => ⟨S100000x128, .f32⟩
  | .hbm, ⟨3, _⟩ => ⟨S_, .f32⟩
  | .hbm, ⟨4, _⟩ => ⟨S14688x128, .f32⟩
  | .hbm, ⟨5, _⟩ => ⟨S114688x128, .f32⟩
  | .hbm, ⟨6, _⟩ => ⟨S1024x114688, .f32⟩
  | .hbm, ⟨7, _⟩ => ⟨S1024x896x128, .f32⟩
  | .hbm, ⟨8, _⟩ => ⟨S1024x896, .f32⟩
  | .hbm, ⟨9, _⟩ => ⟨S1024x896, .i32⟩
  | .hbm, ⟨10, _⟩ => ⟨S1024x64, .i32⟩
  | .hbm, ⟨11, _⟩ => ⟨S1024x64x128, .f32⟩
  | .hbm, ⟨12, _⟩ => ⟨S1024x64x128, .i32⟩
  | .hbm, ⟨13, _⟩ => ⟨S1024x64, .i32⟩
  | .hbm, ⟨14, _⟩ => ⟨S1024x64, .f32⟩
  | .hbm, ⟨15, _⟩ => ⟨S1024x128, .f32⟩
  | .local _ .vmem, ⟨0, _⟩ => ⟨S1024x128, .f32⟩
  | .local _ .vmem, ⟨1, _⟩ => ⟨S2048x128, .f32⟩
  | .local _ .vmem, ⟨2, _⟩ => ⟨S2048x128, .f32⟩
  | .local _ .vmem, ⟨3, _⟩ => ⟨S1024x2048, .f32⟩
  | .local _ .vmem, ⟨4, _⟩ => ⟨S1024x2048, .f32⟩
  | .local _ .vmem, ⟨5, _⟩ => ⟨S16x896x128, .f32⟩
  | .local _ .vmem, ⟨6, _⟩ => ⟨S16x896x128, .f32⟩
  | .local _ .vmem, ⟨7, _⟩ => ⟨S16x896, .f32⟩
  | .local _ .vmem, ⟨8, _⟩ => ⟨S16x896, .f32⟩
  | .local _ .vmem, ⟨9, _⟩ => ⟨S16x896, .i32⟩
  | .local _ .vmem, ⟨10, _⟩ => ⟨S16x896, .i32⟩
  | .local _ .vmem, ⟨11, _⟩ => ⟨S1024x896, .f32⟩
  | .local _ .vmem, ⟨12, _⟩ => ⟨S1024x896, .i32⟩
  | .local _ .vmem, ⟨13, _⟩ => ⟨S1024x64, .i32⟩
  | .local _ .vmem, ⟨14, _⟩ => ⟨S8x896x128, .f32⟩
  | .local _ .vmem, ⟨15, _⟩ => ⟨S8x896x128, .f32⟩
  | .local _ .vmem, ⟨16, _⟩ => ⟨S8x64x128, .f32⟩
  | .local _ .vmem, ⟨17, _⟩ => ⟨S8x64x128, .f32⟩
  | .local _ .vmem, ⟨18, _⟩ => ⟨S8x64x128, .i32⟩
  | .local _ .vmem, ⟨19, _⟩ => ⟨S8x64x128, .i32⟩
  | .local _ .vmem, ⟨20, _⟩ => ⟨S256x64x128, .f32⟩
  | .local _ .vmem, ⟨21, _⟩ => ⟨S256x64x128, .f32⟩
  | .local _ .vmem, ⟨22, _⟩ => ⟨S256x64x128, .i32⟩
  | .local _ .vmem, ⟨23, _⟩ => ⟨S256x64x128, .i32⟩
  | .local _ .vmem, ⟨24, _⟩ => ⟨S256x64, .i32⟩
  | .local _ .vmem, ⟨25, _⟩ => ⟨S256x64, .i32⟩
  | .local _ .vmem, ⟨26, _⟩ => ⟨S256x64, .f32⟩
  | .local _ .vmem, ⟨27, _⟩ => ⟨S256x64, .f32⟩
  | .local _ .vmem, ⟨28, _⟩ => ⟨S8x128, .f32⟩
  | .local _ .vmem, ⟨29, _⟩ => ⟨S8x128, .f32⟩
  | .local _ .vmem, ⟨30, _⟩ => ⟨S100000x128, .f32⟩
  | .local _ .smem, ⟨0, _⟩ => ⟨S8x64, .i32⟩
  | .local _ .smem, ⟨1, _⟩ => ⟨S8x64, .i32⟩
  | .local _ .smem, ⟨2, _⟩ => ⟨S8x64, .i32⟩
  | .local _ .smem, ⟨3, _⟩ => ⟨S8x64, .i32⟩
  | .local _ .smem, ⟨4, _⟩ => ⟨S8x64, .f32⟩
  | .local _ .smem, ⟨5, _⟩ => ⟨S8x64, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7_0 : Ref sig .tc := ⟨.hbm, 13, rfl⟩
abbrev main_v7_1 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg2_0 : Ref sig .tc := ⟨.vmem, 13, rfl⟩
abbrev cc3_stg1_0 : Ref sig .tc := ⟨.vmem, 14, rfl⟩
abbrev cc3_stg1_1 : Ref sig .tc := ⟨.vmem, 15, rfl⟩
abbrev cc3_stg2_0 : Ref sig .tc := ⟨.vmem, 16, rfl⟩
abbrev cc3_stg2_1 : Ref sig .tc := ⟨.vmem, 17, rfl⟩
abbrev cc3_stg3_0 : Ref sig .tc := ⟨.vmem, 18, rfl⟩
abbrev cc3_stg3_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg2_1 : Ref sig .tc := ⟨.vmem, 25, rfl⟩
abbrev cc4_stg3_0 : Ref sig .tc := ⟨.vmem, 26, rfl⟩
abbrev cc4_stg3_1 : Ref sig .tc := ⟨.vmem, 27, rfl⟩
abbrev cc5_stg2_0 : Ref sig .tc := ⟨.vmem, 28, rfl⟩
abbrev cc5_stg2_1 : Ref sig .tc := ⟨.vmem, 29, rfl⟩
abbrev cc5_scratch0 : Ref sig .tc := ⟨.vmem, 30, rfl⟩
abbrev cc3_stg0_0 : Ref sig .tc := ⟨.smem, 0, rfl⟩
abbrev cc3_stg0_1 : Ref sig .tc := ⟨.smem, 1, rfl⟩
abbrev cc5_stg0_0 : Ref sig .tc := ⟨.smem, 2, rfl⟩
abbrev cc5_stg0_1 : Ref sig .tc := ⟨.smem, 3, rfl⟩
abbrev cc5_stg1_0 : Ref sig .tc := ⟨.smem, 4, rfl⟩
abbrev cc5_stg1_1 : Ref sig .tc := ⟨.smem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem1_0 : DmaSem sig := 12
abbrev cc2_sem2_0 : DmaSem sig := 13
abbrev cc3_sem0_0 : DmaSem sig := 14
abbrev cc3_sem0_1 : DmaSem sig := 15
abbrev cc3_sem1_0 : DmaSem sig := 16
abbrev cc3_sem1_1 : DmaSem sig := 17
abbrev cc3_sem2_0 : DmaSem sig := 18
abbrev cc3_sem2_1 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem2_1 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35

abbrev nD : Nat := 1
abbrev τ : Topo := Topo.v7x

variable {F : FTy → Type} [FloatOps F]

abbrev grid0 : Pipeline.Grid := ⟨1, ![56], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16x896x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x896 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x896 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

@[reducible] def k2_t1_loop : Scf.Loop 32 :=
  let c0_i32_3 : BitVec 32 := 0#32
  let c64_i32 : BitVec 32 := 64#32
  let v6 : BitVec 32 := Scalar.addi c0_i32_3 c64_i32
  let c1_i32 : BitVec 32 := 1#32
  ⟨c0_i32_3, v6, c1_i32⟩
def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1024x896 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1024x896 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024x64 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![128], ![false]⟩

@[reducible] def k3_t1_loop : Scf.Loop 32 :=
  let c0_i32 : BitVec 32 := 0#32
  let c64_i32 : BitVec 32 := 64#32
  let v1 : BitVec 32 := Scalar.addi c0_i32 c64_i32
  let c1_i32 : BitVec 32 := 1#32
  ⟨c0_i32, v1, c1_i32⟩
def k3_off1 (k3_t1 : Fin k3_t1_loop.trips) : Fin 2 → Nat :=
  let c0 : Index := 0#32
  let c0_i32 : BitVec 32 := 0#32
  let c1_i32 : BitVec 32 := 1#32
  let arg5 : BitVec 32 := Scf.iv c0_i32 c1_i32 k3_t1
  let v9 : Index := Scalar.indexCast arg5
  ![0, v9.toNat]
def k3_off2 (v10 : BitVec 32) : Fin 3 → Nat :=
  let c0_29 : Index := 0#32
  let v11 : Index := Scalar.indexCast v10
  let c0_30 : Index := 0#32
  ![0, v11.toNat, 0]

def k3_chk1 (v10 : BitVec 32) : Prop :=
  (∀ a, (k3_off2 v10) a + S1x1x128.size a ≤ S8x896x128.size a)
theorem k3_off2_inb : ∀ (v10 : BitVec 32) (k3_hw1 : k3_chk1 v10), ∀ a, (k3_off2 v10) a + S1x1x128.size a ≤ S8x896x128.size a := fun v10 k3_hw1 => k3_hw1

def k3_off3 (k3_t1 : Fin k3_t1_loop.trips) : Fin 3 → Nat :=
  let c0_31 : Index := 0#32
  let c0_i32 : BitVec 32 := 0#32
  let c1_i32 : BitVec 32 := 1#32
  let arg5 : BitVec 32 := Scf.iv c0_i32 c1_i32 k3_t1
  let v14 : Index := Scalar.indexCast arg5
  let c0_32 : Index := 0#32
  ![0, v14.toNat, 0]
@[reducible] def k3_t2_loop : Scf.Loop 32 :=
  let c0_i32_1 : BitVec 32 := 0#32
  let c64_i32_2 : BitVec 32 := 64#32
  let v2 : BitVec 32 := Scalar.addi c0_i32_1 c64_i32_2
  let c1_i32_3 : BitVec 32 := 1#32
  ⟨c0_i32_1, v2, c1_i32_3⟩
def k3_off4 (k3_t2 : Fin k3_t2_loop.trips) : Fin 2 → Nat :=
  let c1 : Index := 1#32
  let c0_i32_1 : BitVec 32 := 0#32
  let c1_i32_3 : BitVec 32 := 1#32
  let arg5 : BitVec 32 := Scf.iv c0_i32_1 c1_i32_3 k3_t2
  let v9 : Index := Scalar.indexCast arg5
  ![1, v9.toNat]
def k3_off5 (v10 : BitVec 32) : Fin 3 → Nat :=
  let c1_29 : Index := 1#32
  let v11 : Index := Scalar.indexCast v10
  let c0 : Index := 0#32
  ![1, v11.toNat, 0]

def k3_chk2 (v10 : BitVec 32) : Prop :=
  (∀ a, (k3_off5 v10) a + S1x1x128.size a ≤ S8x896x128.size a)
theorem k3_off5_inb : ∀ (v10 : BitVec 32) (k3_hw2 : k3_chk2 v10), ∀ a, (k3_off5 v10) a + S1x1x128.size a ≤ S8x896x128.size a := fun v10 k3_hw2 => k3_hw2

def k3_off6 (k3_t2 : Fin k3_t2_loop.trips) : Fin 3 → Nat :=
  let c1_30 : Index := 1#32
  let c0_i32_1 : BitVec 32 := 0#32
  let c1_i32_3 : BitVec 32 := 1#32
  let arg5 : BitVec 32 := Scf.iv c0_i32_1 c1_i32_3 k3_t2
  let v14 : Index := Scalar.indexCast arg5
  let c0_31 : Index := 0#32
  ![1, v14.toNat, 0]
@[reducible] def k3_t3_loop : Scf.Loop 32 :=
  let c0_i32_5 : BitVec 32 := 0#32
  let c64_i32_6 : BitVec 32 := 64#32
  let v3 : BitVec 32 := Scalar.addi c0_i32_5 c64_i32_6
  let c1_i32_7 : BitVec 32 := 1#32
  ⟨c0_i32_5, v3, c1_i32_7⟩
def k3_off7 (k3_t3 : Fin k3_t3_loop.trips) : Fin 2 → Nat :=
  let c2 : Index := 2#32
  let c0_i32_5 : BitVec 32 := 0#32
  let c1_i32_7 : BitVec 32 := 1#32
  let arg5 : BitVec 32 := Scf.iv c0_i32_5 c1_i32_7 k3_t3
  let v9 : Index := Scalar.indexCast arg5
  ![2, v9.toNat]
def k3_off8 (v10 : BitVec 32) : Fin 3 → Nat :=
  let c2_29 : Index := 2#32
  let v11 : Index := Scalar.indexCast v10
  let c0 : Index := 0#32
  ![2, v11.toNat, 0]

def k3_chk3 (v10 : BitVec 32) : Prop :=
  (∀ a, (k3_off8 v10) a + S1x1x128.size a ≤ S8x896x128.size a)
theorem k3_off8_inb : ∀ (v10 : BitVec 32) (k3_hw3 : k3_chk3 v10), ∀ a, (k3_off8 v10) a + S1x1x128.size a ≤ S8x896x128.size a := fun v10 k3_hw3 => k3_hw3

def k3_off9 (k3_t3 : Fin k3_t3_loop.trips) : Fin 3 → Nat :=
  let c2_30 : Index := 2#32
  let c0_i32_5 : BitVec 32 := 0#32
  let c1_i32_7 : BitVec 32 := 1#32
  let arg5 : BitVec 32 := Scf.iv c0_i32_5 c1_i32_7 k3_t3
  let v14 : Index := Scalar.indexCast arg5
  let c0_31 : Index := 0#32
  ![2, v14.toNat, 0]
@[reducible] def k3_t4_loop : Scf.Loop 32 :=
  let c0_i32_9 : BitVec 32 := 0#32
  let c64_i32_10 : BitVec 32 := 64#32
  let v4 : BitVec 32 := Scalar.addi c0_i32_9 c64_i32_10
  let c1_i32_11 : BitVec 32 := 1#32
  ⟨c0_i32_9, v4, c1_i32_11⟩
def k3_off10 (k3_t4 : Fin k3_t4_loop.trips) : Fin 2 → Nat :=
  let c3 : Index := 3#32
  let c0_i32_9 : BitVec 32 := 0#32
  let c1_i32_11 : BitVec 32 := 1#32
  let arg5 : BitVec 32 := Scf.iv c0_i32_9 c1_i32_11 k3_t4
  let v9 : Index := Scalar.indexCast arg5
  ![3, v9.toNat]
def k3_off11 (v10 : BitVec 32) : Fin 3 → Nat :=
  let c3_29 : Index := 3#32
  let v11 : Index := Scalar.indexCast v10
  let c0 : Index := 0#32
  ![3, v11.toNat, 0]

def k3_chk4 (v10 : BitVec 32) : Prop :=
  (∀ a, (k3_off11 v10) a + S1x1x128.size a ≤ S8x896x128.size a)
theorem k3_off11_inb : ∀ (v10 : BitVec 32) (k3_hw4 : k3_chk4 v10), ∀ a, (k3_off11 v10) a + S1x1x128.size a ≤ S8x896x128.size a := fun v10 k3_hw4 => k3_hw4

def k3_off12 (k3_t4 : Fin k3_t4_loop.trips) : Fin 3 → Nat :=
  let c3_30 : Index := 3#32
  let c0_i32_9 : BitVec 32 := 0#32
  let c1_i32_11 : BitVec 32 := 1#32
  let arg5 : BitVec 32 := Scf.iv c0_i32_9 c1_i32_11 k3_t4
  let v14 : Index := Scalar.indexCast arg5
  let c0_31 : Index := 0#32
  ![3, v14.toNat, 0]
@[reducible] def k3_t5_loop : Scf.Loop 32 :=
  let c0_i32_13 : BitVec 32 := 0#32
  let c64_i32_14 : BitVec 32 := 64#32
  let v5 : BitVec 32 := Scalar.addi c0_i32_13 c64_i32_14
  let c1_i32_15 : BitVec 32 := 1#32
  ⟨c0_i32_13, v5, c1_i32_15⟩
def k3_off13 (k3_t5 : Fin k3_t5_loop.trips) : Fin 2 → Nat :=
  let c4 : Index := 4#32
  let c0_i32_13 : BitVec 32 := 0#32
  let c1_i32_15 : BitVec 32 := 1#32
  let arg5 : BitVec 32 := Scf.iv c0_i32_13 c1_i32_15 k3_t5
  let v9 : Index := Scalar.indexCast arg5
  ![4, v9.toNat]
def k3_off14 (v10 : BitVec 32) : Fin 3 → Nat :=
  let c4_29 : Index := 4#32
  let v11 : Index := Scalar.indexCast v10
  let c0 : Index := 0#32
  ![4, v11.toNat, 0]

def k3_chk5 (v10 : BitVec 32) : Prop :=
  (∀ a, (k3_off14 v10) a + S1x1x128.size a ≤ S8x896x128.size a)
theorem k3_off14_inb : ∀ (v10 : BitVec 32) (k3_hw5 : k3_chk5 v10), ∀ a, (k3_off14 v10) a + S1x1x128.size a ≤ S8x896x128.size a := fun v10 k3_hw5 => k3_hw5

def k3_off15 (k3_t5 : Fin k3_t5_loop.trips) : Fin 3 → Nat :=
  let c4_30 : Index := 4#32
  let c0_i32_13 : BitVec 32 := 0#32
  let c1_i32_15 : BitVec 32 := 1#32
  let arg5 : BitVec 32 := Scf.iv c0_i32_13 c1_i32_15 k3_t5
  let v14 : Index := Scalar.indexCast arg5
  let c0_31 : Index := 0#32
  ![4, v14.toNat, 0]
@[reducible] def k3_t6_loop : Scf.Loop 32 :=
  let c0_i32_17 : BitVec 32 := 0#32
  let c64_i32_18 : BitVec 32 := 64#32
  let v6 : BitVec 32 := Scalar.addi c0_i32_17 c64_i32_18
  let c1_i32_19 : BitVec 32 := 1#32
  ⟨c0_i32_17, v6, c1_i32_19⟩
def k3_off16 (k3_t6 : Fin k3_t6_loop.trips) : Fin 2 → Nat :=
  let c5 : Index := 5#32
  let c0_i32_17 : BitVec 32 := 0#32
  let c1_i32_19 : BitVec 32 := 1#32
  let arg5 : BitVec 32 := Scf.iv c0_i32_17 c1_i32_19 k3_t6
  let v9 : Index := Scalar.indexCast arg5
  ![5, v9.toNat]
def k3_off17 (v10 : BitVec 32) : Fin 3 → Nat :=
  let c5_29 : Index := 5#32
  let v11 : Index := Scalar.indexCast v10
  let c0 : Index := 0#32
  ![5, v11.toNat, 0]

def k3_chk6 (v10 : BitVec 32) : Prop :=
  (∀ a, (k3_off17 v10) a + S1x1x128.size a ≤ S8x896x128.size a)
theorem k3_off17_inb : ∀ (v10 : BitVec 32) (k3_hw6 : k3_chk6 v10), ∀ a, (k3_off17 v10) a + S1x1x128.size a ≤ S8x896x128.size a := fun v10 k3_hw6 => k3_hw6

def k3_off18 (k3_t6 : Fin k3_t6_loop.trips) : Fin 3 → Nat :=
  let c5_30 : Index := 5#32
  let c0_i32_17 : BitVec 32 := 0#32
  let c1_i32_19 : BitVec 32 := 1#32
  let arg5 : BitVec 32 := Scf.iv c0_i32_17 c1_i32_19 k3_t6
  let v14 : Index := Scalar.indexCast arg5
  let c0_31 : Index := 0#32
  ![5, v14.toNat, 0]
@[reducible] def k3_t7_loop : Scf.Loop 32 :=
  let c0_i32_21 : BitVec 32 := 0#32
  let c64_i32_22 : BitVec 32 := 64#32
  let v7 : BitVec 32 := Scalar.addi c0_i32_21 c64_i32_22
  let c1_i32_23 : BitVec 32 := 1#32
  ⟨c0_i32_21, v7, c1_i32_23⟩
def k3_off19 (k3_t7 : Fin k3_t7_loop.trips) : Fin 2 → Nat :=
  let c6 : Index := 6#32
  let c0_i32_21 : BitVec 32 := 0#32
  let c1_i32_23 : BitVec 32 := 1#32
  let arg5 : BitVec 32 := Scf.iv c0_i32_21 c1_i32_23 k3_t7
  let v9 : Index := Scalar.indexCast arg5
  ![6, v9.toNat]
def k3_off20 (v10 : BitVec 32) : Fin 3 → Nat :=
  let c6_29 : Index := 6#32
  let v11 : Index := Scalar.indexCast v10
  let c0 : Index := 0#32
  ![6, v11.toNat, 0]

def k3_chk7 (v10 : BitVec 32) : Prop :=
  (∀ a, (k3_off20 v10) a + S1x1x128.size a ≤ S8x896x128.size a)
theorem k3_off20_inb : ∀ (v10 : BitVec 32) (k3_hw7 : k3_chk7 v10), ∀ a, (k3_off20 v10) a + S1x1x128.size a ≤ S8x896x128.size a := fun v10 k3_hw7 => k3_hw7

def k3_off21 (k3_t7 : Fin k3_t7_loop.trips) : Fin 3 → Nat :=
  let c6_30 : Index := 6#32
  let c0_i32_21 : BitVec 32 := 0#32
  let c1_i32_23 : BitVec 32 := 1#32
  let arg5 : BitVec 32 := Scf.iv c0_i32_21 c1_i32_23 k3_t7
  let v14 : Index := Scalar.indexCast arg5
  let c0_31 : Index := 0#32
  ![6, v14.toNat, 0]
@[reducible] def k3_t8_loop : Scf.Loop 32 :=
  let c0_i32_25 : BitVec 32 := 0#32
  let c64_i32_26 : BitVec 32 := 64#32
  let v8 : BitVec 32 := Scalar.addi c0_i32_25 c64_i32_26
  let c1_i32_27 : BitVec 32 := 1#32
  ⟨c0_i32_25, v8, c1_i32_27⟩
def k3_off22 (k3_t8 : Fin k3_t8_loop.trips) : Fin 2 → Nat :=
  let c7 : Index := 7#32
  let c0_i32_25 : BitVec 32 := 0#32
  let c1_i32_27 : BitVec 32 := 1#32
  let arg5 : BitVec 32 := Scf.iv c0_i32_25 c1_i32_27 k3_t8
  let v9 : Index := Scalar.indexCast arg5
  ![7, v9.toNat]
def k3_off23 (v10 : BitVec 32) : Fin 3 → Nat :=
  let c7_29 : Index := 7#32
  let v11 : Index := Scalar.indexCast v10
  let c0 : Index := 0#32
  ![7, v11.toNat, 0]

def k3_chk8 (v10 : BitVec 32) : Prop :=
  (∀ a, (k3_off23 v10) a + S1x1x128.size a ≤ S8x896x128.size a)
theorem k3_off23_inb : ∀ (v10 : BitVec 32) (k3_hw8 : k3_chk8 v10), ∀ a, (k3_off23 v10) a + S1x1x128.size a ≤ S8x896x128.size a := fun v10 k3_hw8 => k3_hw8

def k3_off24 (k3_t8 : Fin k3_t8_loop.trips) : Fin 3 → Nat :=
  let c7_30 : Index := 7#32
  let c0_i32_25 : BitVec 32 := 0#32
  let c1_i32_27 : BitVec 32 := 1#32
  let arg5 : BitVec 32 := Scf.iv c0_i32_25 c1_i32_27 k3_t8
  let v14 : Index := Scalar.indexCast arg5
  let c0_31 : Index := 0#32
  ![7, v14.toNat, 0]
def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .smem S8x64 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8x896x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8x64x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S8x64x128 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![4], ![false]⟩

@[reducible] def k4_t1_loop : Scf.Loop 32 :=
  let c0_i32_5 : BitVec 32 := 0#32
  let c64_i32 : BitVec 32 := 64#32
  let v7 : BitVec 32 := Scalar.addi c0_i32_5 c64_i32
  let c1_i32 : BitVec 32 := 1#32
  ⟨c0_i32_5, v7, c1_i32⟩
def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x64x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x64x128 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S256x64 .i32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S256x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![128], ![false]⟩

@[reducible] def k5_t1_loop : Scf.Loop 32 :=
  let c0_i32_1 : BitVec 32 := 0#32
  let c64_i32 : BitVec 32 := 64#32
  let v5 : BitVec 32 := Scalar.addi c0_i32_1 c64_i32
  let c1_i32 : BitVec 32 := 1#32
  ⟨c0_i32_1, v5, c1_i32⟩
def k5_off1 (k5_t1 : Fin k5_t1_loop.trips) : Fin 2 → Nat :=
  let c0_4 : Index := 0#32
  let c0_i32_1 : BitVec 32 := 0#32
  let c1_i32 : BitVec 32 := 1#32
  let arg7 : BitVec 32 := Scf.iv c0_i32_1 c1_i32 k5_t1
  let v8 : Index := Scalar.indexCast arg7
  ![0, v8.toNat]
def k5_off2 (v9 : BitVec 32) : Fin 2 → Nat :=
  let v12 : Index := Scalar.indexCast v9
  let c0_6 : Index := 0#32
  ![v12.toNat, 0]

def k5_chk1 (v9 : BitVec 32) : Prop :=
  (∀ a, (k5_off2 v9) a + S1x128.size a ≤ S100000x128.size a)
theorem k5_off2_inb : ∀ (v9 : BitVec 32) (k5_hw1 : k5_chk1 v9), ∀ a, (k5_off2 v9) a + S1x128.size a ≤ S100000x128.size a := fun v9 k5_hw1 => k5_hw1

def k5_off3 (k5_t1 : Fin k5_t1_loop.trips) : Fin 2 → Nat :=
  let c1 : Index := 1#32
  let c0_i32_1 : BitVec 32 := 0#32
  let c1_i32 : BitVec 32 := 1#32
  let arg7 : BitVec 32 := Scf.iv c0_i32_1 c1_i32 k5_t1
  let v23 : Index := Scalar.indexCast arg7
  ![1, v23.toNat]
def k5_off4 (v24 : BitVec 32) : Fin 2 → Nat :=
  let v27 : Index := Scalar.indexCast v24
  let c0_10 : Index := 0#32
  ![v27.toNat, 0]

def k5_chk2 (v24 : BitVec 32) : Prop :=
  (∀ a, (k5_off4 v24) a + S1x128.size a ≤ S100000x128.size a)
theorem k5_off4_inb : ∀ (v24 : BitVec 32) (k5_hw2 : k5_chk2 v24), ∀ a, (k5_off4 v24) a + S1x128.size a ≤ S100000x128.size a := fun v24 k5_hw2 => k5_hw2

def k5_off5 (k5_t1 : Fin k5_t1_loop.trips) : Fin 2 → Nat :=
  let c2 : Index := 2#32
  let c0_i32_1 : BitVec 32 := 0#32
  let c1_i32 : BitVec 32 := 1#32
  let arg7 : BitVec 32 := Scf.iv c0_i32_1 c1_i32 k5_t1
  let v38 : Index := Scalar.indexCast arg7
  ![2, v38.toNat]
def k5_off6 (v39 : BitVec 32) : Fin 2 → Nat :=
  let v42 : Index := Scalar.indexCast v39
  let c0_14 : Index := 0#32
  ![v42.toNat, 0]

def k5_chk3 (v39 : BitVec 32) : Prop :=
  (∀ a, (k5_off6 v39) a + S1x128.size a ≤ S100000x128.size a)
theorem k5_off6_inb : ∀ (v39 : BitVec 32) (k5_hw3 : k5_chk3 v39), ∀ a, (k5_off6 v39) a + S1x128.size a ≤ S100000x128.size a := fun v39 k5_hw3 => k5_hw3

def k5_off7 (k5_t1 : Fin k5_t1_loop.trips) : Fin 2 → Nat :=
  let c3 : Index := 3#32
  let c0_i32_1 : BitVec 32 := 0#32
  let c1_i32 : BitVec 32 := 1#32
  let arg7 : BitVec 32 := Scf.iv c0_i32_1 c1_i32 k5_t1
  let v53 : Index := Scalar.indexCast arg7
  ![3, v53.toNat]
def k5_off8 (v54 : BitVec 32) : Fin 2 → Nat :=
  let v57 : Index := Scalar.indexCast v54
  let c0_17 : Index := 0#32
  ![v57.toNat, 0]

def k5_chk4 (v54 : BitVec 32) : Prop :=
  (∀ a, (k5_off8 v54) a + S1x128.size a ≤ S100000x128.size a)
theorem k5_off8_inb : ∀ (v54 : BitVec 32) (k5_hw4 : k5_chk4 v54), ∀ a, (k5_off8 v54) a + S1x128.size a ≤ S100000x128.size a := fun v54 k5_hw4 => k5_hw4

def k5_off9 (k5_t1 : Fin k5_t1_loop.trips) : Fin 2 → Nat :=
  let c4 : Index := 4#32
  let c0_i32_1 : BitVec 32 := 0#32
  let c1_i32 : BitVec 32 := 1#32
  let arg7 : BitVec 32 := Scf.iv c0_i32_1 c1_i32 k5_t1
  let v68 : Index := Scalar.indexCast arg7
  ![4, v68.toNat]
def k5_off10 (v69 : BitVec 32) : Fin 2 → Nat :=
  let v72 : Index := Scalar.indexCast v69
  let c0_20 : Index := 0#32
  ![v72.toNat, 0]

def k5_chk5 (v69 : BitVec 32) : Prop :=
  (∀ a, (k5_off10 v69) a + S1x128.size a ≤ S100000x128.size a)
theorem k5_off10_inb : ∀ (v69 : BitVec 32) (k5_hw5 : k5_chk5 v69), ∀ a, (k5_off10 v69) a + S1x128.size a ≤ S100000x128.size a := fun v69 k5_hw5 => k5_hw5

def k5_off11 (k5_t1 : Fin k5_t1_loop.trips) : Fin 2 → Nat :=
  let c5 : Index := 5#32
  let c0_i32_1 : BitVec 32 := 0#32
  let c1_i32 : BitVec 32 := 1#32
  let arg7 : BitVec 32 := Scf.iv c0_i32_1 c1_i32 k5_t1
  let v83 : Index := Scalar.indexCast arg7
  ![5, v83.toNat]
def k5_off12 (v84 : BitVec 32) : Fin 2 → Nat :=
  let v87 : Index := Scalar.indexCast v84
  let c0_23 : Index := 0#32
  ![v87.toNat, 0]

def k5_chk6 (v84 : BitVec 32) : Prop :=
  (∀ a, (k5_off12 v84) a + S1x128.size a ≤ S100000x128.size a)
theorem k5_off12_inb : ∀ (v84 : BitVec 32) (k5_hw6 : k5_chk6 v84), ∀ a, (k5_off12 v84) a + S1x128.size a ≤ S100000x128.size a := fun v84 k5_hw6 => k5_hw6

def k5_off13 (k5_t1 : Fin k5_t1_loop.trips) : Fin 2 → Nat :=
  let c6 : Index := 6#32
  let c0_i32_1 : BitVec 32 := 0#32
  let c1_i32 : BitVec 32 := 1#32
  let arg7 : BitVec 32 := Scf.iv c0_i32_1 c1_i32 k5_t1
  let v98 : Index := Scalar.indexCast arg7
  ![6, v98.toNat]
def k5_off14 (v99 : BitVec 32) : Fin 2 → Nat :=
  let v102 : Index := Scalar.indexCast v99
  let c0_26 : Index := 0#32
  ![v102.toNat, 0]

def k5_chk7 (v99 : BitVec 32) : Prop :=
  (∀ a, (k5_off14 v99) a + S1x128.size a ≤ S100000x128.size a)
theorem k5_off14_inb : ∀ (v99 : BitVec 32) (k5_hw7 : k5_chk7 v99), ∀ a, (k5_off14 v99) a + S1x128.size a ≤ S100000x128.size a := fun v99 k5_hw7 => k5_hw7

def k5_off15 (k5_t1 : Fin k5_t1_loop.trips) : Fin 2 → Nat :=
  let c7 : Index := 7#32
  let c0_i32_1 : BitVec 32 := 0#32
  let c1_i32 : BitVec 32 := 1#32
  let arg7 : BitVec 32 := Scf.iv c0_i32_1 c1_i32 k5_t1
  let v113 : Index := Scalar.indexCast arg7
  ![7, v113.toNat]
def k5_off16 (v114 : BitVec 32) : Fin 2 → Nat :=
  let v117 : Index := Scalar.indexCast v114
  let c0_29 : Index := 0#32
  ![v117.toNat, 0]

def k5_chk8 (v114 : BitVec 32) : Prop :=
  (∀ a, (k5_off16 v114) a + S1x128.size a ≤ S100000x128.size a)
theorem k5_off16_inb : ∀ (v114 : BitVec 32) (k5_hw8 : k5_chk8 v114), ∀ a, (k5_off16 v114) a + S1x128.size a ≤ S100000x128.size a := fun v114 k5_hw8 => k5_hw8

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .smem S8x64 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .smem S8x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S8x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]
-- ==== ReferenceIdeal.lean ====
abbrev S1024x128 : Shape := ⟨2, ![1024, 128]⟩
abbrev S100000x128 : Shape := ⟨2, ![100000, 128]⟩
abbrev S128x100000 : Shape := ⟨2, ![128, 100000]⟩
abbrev S1024x100000 : Shape := ⟨2, ![1024, 100000]⟩
abbrev S1024x64 : Shape := ⟨2, ![1024, 64]⟩
abbrev S_ : Shape := ⟨0, ![]⟩
abbrev S1024 : Shape := ⟨1, ![1024]⟩
abbrev S1024x1 : Shape := ⟨2, ![1024, 1]⟩
abbrev S1024x64x1 : Shape := ⟨3, ![1024, 64, 1]⟩
abbrev S1 : Shape := ⟨1, ![1]⟩
abbrev S1x1x1 : Shape := ⟨3, ![1, 1, 1]⟩
abbrev S1024x64x128 : Shape := ⟨3, ![1024, 64, 128]⟩

abbrev nBuf : Space → Nat
  | .hbm => 49
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S100000x128, .f32⟩
  | .hbm, ⟨2, _⟩ => ⟨S100000x128, .f32⟩
  | .hbm, ⟨3, _⟩ => ⟨S128x100000, .f32⟩
  | .hbm, ⟨4, _⟩ => ⟨S1024x100000, .f32⟩
  | .hbm, ⟨5, _⟩ => ⟨S1024x64, .f32⟩
  | .hbm, ⟨6, _⟩ => ⟨S1024x64, .i32⟩
  | .hbm, ⟨7, _⟩ => ⟨S_, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S1024x1, .f32⟩
  | .hbm, ⟨13, _⟩ => ⟨S1024x64, .f32⟩
  | .hbm, ⟨14, _⟩ => ⟨S1024x64, .f32⟩
  | .hbm, ⟨15, _⟩ => ⟨S1024x64, .f32⟩
  | .hbm, ⟨16, _⟩ => ⟨S_, .f32⟩
  | .hbm, ⟨17, _⟩ => ⟨S1024, .f32⟩
  | .hbm, ⟨18, _⟩ => ⟨S1024x1, .f32⟩
  | .hbm, ⟨19, _⟩ => ⟨S1024x64, .f32⟩
  | .hbm, ⟨20, _⟩ => ⟨S1024x64, .f32⟩
  | .hbm, ⟨21, _⟩ => ⟨S_, .i32⟩
  | .hbm, ⟨22, _⟩ => ⟨S1024x64, .i32⟩
  | .hbm, ⟨23, _⟩ => ⟨S1024x64, .i1⟩
  | .hbm, ⟨24, _⟩ => ⟨S_, .i32⟩
  | .hbm, ⟨25, _⟩ => ⟨S1024x64, .i32⟩
  | .hbm, ⟨26, _⟩ => ⟨S1024x64, .i32⟩
  | .hbm, ⟨27, _⟩ => ⟨S1024x64, .i32⟩
  | .hbm, ⟨28, _⟩ => ⟨S1024x64x1, .i32⟩
  | .hbm, ⟨29, _⟩ => ⟨S1, .i32⟩
  | .hbm, ⟨30, _⟩ => ⟨S_, .i32⟩
  | .hbm, ⟨31, _⟩ => ⟨S1024x64x1, .i32⟩
  | .hbm, ⟨32, _⟩ => ⟨S1024x64x1, .i1⟩
  | .hbm, ⟨33, _⟩ => ⟨S1x1x1, .i32⟩
  | .hbm, ⟨34, _⟩ => ⟨S1024x64x1, .i32⟩
  | .hbm, ⟨35, _⟩ => ⟨S1024x64x1, .i1⟩
  | .hbm, ⟨36, _⟩ => ⟨S1024x64x1, .i1⟩
  | .hbm, ⟨37, _⟩ => ⟨S_, .i1⟩
  | .hbm, ⟨38, _⟩ => ⟨S1024x64, .i1⟩
  | .hbm, ⟨39, _⟩ => ⟨S1024x64x128, .f32⟩
  | .hbm, ⟨40, _⟩ => ⟨S1024x64x128, .i1⟩
  | .hbm, ⟨41, _⟩ => ⟨S_, .f32⟩
  | .hbm, ⟨42, _⟩ => ⟨S1024x64x128, .f32⟩
  | .hbm, ⟨43, _⟩ => ⟨S1024x64x128, .f32⟩
  | .hbm, ⟨44, _⟩ => ⟨S1024x64x1, .f32⟩
  | .hbm, ⟨45, _⟩ => ⟨S1024x64x128, .f32⟩
  | .hbm, ⟨46, _⟩ => ⟨S1024x64x128, .f32⟩
  | .hbm, ⟨47, _⟩ => ⟨S_, .f32⟩
  | .hbm, ⟨48, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_values : Ref sig .tc := ⟨.hbm, 5, rfl⟩
abbrev main_indices : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_cst_2 : Ref sig .tc := ⟨.hbm, 47, rfl⟩
abbrev main_v17 : Ref sig .tc := ⟨.hbm, 48, rfl⟩

abbrev nD : Nat := 1
abbrev τ : Topo := Topo.v7x

variable {F : FTy → Type} [FloatOps F]
-- ==== Proof.Finite.lean ====
/- What the precondition says of the entries: every query and key is a real number, so every score is one. -/
module

public import proofs.«01_k».proof.Pre_finite
public import proofs.«01_k».proof.Proof.Gen.Pre_finite
public import Idealize.ShloMosaic.Lib.Pointwise
public import Idealize.ShloMosaic.Lib.ReduceAll

@[expose] public section

set_option maxRecDepth 16384

noncomputable section

namespace Cert.Pre_finite

open Idealize.ShloMosaic

attribute [local instance] Gen.facts

/-- A conjunction of bits over an index set is one only if every bit is. -/
theorem of_fold_andi {ι : Type} [DecidableEq ι] (f : ι → BitVec 1) (S : Finset ι) (h : S.fold IntOp.andi (1#1) f = 1#1) : ∀ k ∈ S, f k = 1#1 := by
  induction S using Finset.induction with
  | empty => exact fun k hk => absurd hk (Finset.notMem_empty k)
  | insert a S ha ih =>
    rw [Finset.fold_insert ha] at h
    have both : ∀ x y : BitVec 1, IntOp.andi x y = 1#1 → x = 1#1 ∧ y = 1#1 := by decide
    obtain ⟨h1, h2⟩ := both _ _ h
    intro k hk
    rcases Finset.mem_insert.mp hk with rfl | hk
    · exact h1
    · exact ih h2 k hk

theorem of_fold_andi_univ {ι : Type} {inst : Fintype ι} (f : ι → BitVec 1) (h : (Finset.univ : Finset ι).fold IntOp.andi (1#1) f = 1#1) (k : ι) :
    f k = 1#1 := by
  classical
  exact of_fold_andi f _ h k (Finset.mem_univ k)

/-- An absolute value below infinity is a real number's. -/
theorem real_of_abs (a : Ideal .f32) (h : BitVec.ofBool (decide (FloatOps.absf a < Ideal.ofBits .f32 2139095040#32)) = 1#1) :
    ∃ x : ℝ, (a : EReal) = (x : EReal) := by
  have top : Ideal.ofBits .f32 2139095040#32 = ⊤ := by simp [Ideal.ofBits, Ideal.ieee]
  have bit : ∀ b : Bool, BitVec.ofBool b = 1#1 → b = true := by decide
  have h := of_decide_eq_true (bit _ h)
  rw [top] at h
  have h : max (a : EReal) (-(a : EReal)) < ⊤ := h
  refine ⟨EReal.toReal a, (EReal.coe_toReal (fun e => ?_) fun e => ?_).symm⟩
  · exact absurd (lt_of_le_of_lt (le_max_left _ _) h) (by rw [e]; exact lt_irrefl _)
  · exact absurd (lt_of_le_of_lt (le_max_right _ _) h) (by rw [e, EReal.neg_bot]; exact lt_irrefl _)

/-- Under the precondition every query and every key is a real number. -/
theorem real_of (a : FVec Ideal S1024x128 .f32) (b v : FVec Ideal S100000x128 .f32) (h : fn (F := Ideal) a b v = fun _ => 1#1) :
    (∀ i j, ∃ x : ℝ, (a (ix2 i j) : EReal) = (x : EReal)) ∧ ∀ i j, ∃ x : ℝ, (b (ix2 i j) : EReal) = (x : EReal) := by
  have h := congrFun h (fun a => Fin.elim0 a)
  unfold fn at h
  pointwise at h
  have both : ∀ x y : BitVec 1, IntOp.andi x y = 1#1 → x = 1#1 ∧ y = 1#1 := by decide
  obtain ⟨h1, h2⟩ := both _ _ h
  have q1 := of_fold_andi_univ _ h1
  have q2 := of_fold_andi_univ _ h2
  exact ⟨fun i j => real_of_abs (a (ix2 i j)) (q1 (i, j)),
    fun i j => real_of_abs (b (ix2 i j)) (q2 (i, j))⟩

/-- A finite sum of products of real numbers is not minus infinity. -/
theorem sum_ne_bot {n : ℕ} (f g : Fin n → EReal) (hf : ∀ i, ∃ x : ℝ, f i = x) (hg : ∀ i, ∃ x : ℝ, g i = x) : ∑ i, f i * g i ≠ ⊥ := by
  choose x hx using hf
  choose y hy using hg
  have e : ∀ S : Finset (Fin n), ∑ i ∈ S, f i * g i = ((∑ i ∈ S, x i * y i : ℝ) : EReal) := by
    intro S
    induction S using Finset.induction with
    | empty => simp
    | insert a S ha ih => rw [Finset.sum_insert ha, Finset.sum_insert ha, ih, hx, hy, EReal.coe_add, EReal.coe_mul]
  rw [e]
  exact EReal.coe_ne_bot _

end Cert.Pre_finite

end

end
-- ==== Proof.Bodies.lean ====
/- The four calls whose body is a straight line of loads and stores, with at most a loop that touches no memory:
   the scores, the group maxima, the group selection, the top-k. For each: what its body leaves in every output's
   buffer, as a plain function of the input blocks, and the obligation its pipeline has. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state of every region: the pipeline's rounds and the counters of a body's own transfers. -/
abbrev UK : Type := Pipeline.UD sig nD τ

local notation "𝕄" => MT nD τ sig Unit (Elt F) ℕ UK ℕ

section Regions
variable (V : (c : Dev nD) → (b : Ref sig .tc) → Buf (Elt F) ((c : Thread nD τ).loc b))

/-- Window `w`'s block at point `t`, read off its array as the region finds it. -/
def blkIn (cfg : Pipeline.Cfg sig Λ₀) (c : Dev nD) (w : Fin cfg.W) (t : Fin cfg.N) :
    ((cfg.win w).xblock (cfg.grid.coords t)).Idx → Elt F (cfg.win w).elt :=
  ((cfg.win w).blk t).view.read (Elt F) (V c (Pipeline.arrRef cfg.spec w))

/-! ## The scores -/

/-- The scores of all queries against one block of keys. -/
def out0 (i : grid0.Coords) (x0 : Vec F S1024x128 .f32) (x1 : Vec F S2048x128 .f32) : Vec F S1024x2048 .f32 := k0_pay1 i x0 x1

theorem sound_kernel0 (c : Dev nD) (E : Set ℕ) (i : grid0.Coords) (arg1 : Memref sig .tc .vmem S1024x128 .f32) (harg1 : arg1.IsWhole) (arg2 : Memref sig .tc .vmem S2048x128 .f32) (harg2 : arg2.IsWhole) (arg3 : Memref sig .tc .vmem S1024x2048 .f32) (harg3 : arg3.IsWhole)
    (x0 : Vec F S1024x128 .f32) (x1 : Vec F S2048x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0 i x0 x1)) -∗ K ⟨⟩))
      ⊢ wp frame (wpE (defs₀ (F := F)) Variants.none c none) E (cc0__score_kernel i arg1 harg1 arg2 harg2 arg3 harg3) K := by
  simp only [cc0__score_kernel_eq_skeleton]; unfold cc0__score_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_full _ _ _ _ _).trans ?_
  unfold out0
  congr 1 <;> exact View.readAt_full _ _ _

def dat0 (c : Dev nD) : Dat τ (Elt F) Unit ℕ UK ℕ cfg0 c where
  A w := V c (Pipeline.arrRef spec0 w)
  after w t := match w with
    | ⟨0, _⟩ => blkIn V cfg0 c 0 t
    | ⟨1, _⟩ => blkIn V cfg0 c 1 t
    | ⟨2, _⟩ => out0 (grid0.coords t) (blkIn V cfg0 c 0 t) (blkIn V cfg0 c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = blkIn V cfg0 c 0 t := by dsimp only [dat0]
theorem after0_1 (c : Dev nD) (t : Fin cfg0.N) : (dat0 V c).after 1 t = blkIn V cfg0 c 1 t := by dsimp only [dat0]
theorem after0_2 (c : Dev nD) (t : Fin cfg0.N) : (dat0 V c).after 2 t = out0 (grid0.coords t) (blkIn V cfg0 c 0 t) (blkIn V cfg0 c 1 t) := by dsimp only [dat0]

theorem before0_0 (c : Dev nD) (t : Fin cfg0.N) (d) : (dat0 V c).before 0 t d = blkIn V cfg0 c 0 t :=
  ((dat0 V c).before_in_eq_fetched 0 rfl (fun _ => rfl) (fun _ _ _ => rfl) (fun t => by rw [after0_0]; unfold Dat.blockOf blkIn; rw [A_eq0]; try rfl) t d).trans
    (by unfold Dat.fetched Dat.blockOf blkIn; rw [A_eq0]; try rfl)
theorem before0_1 (c : Dev nD) (t : Fin cfg0.N) (d) : (dat0 V c).before 1 t d = blkIn V cfg0 c 1 t :=
  ((dat0 V c).before_in_eq_fetched 1 rfl (fun _ => rfl) (fun _ _ _ => rfl) (fun t => by rw [after0_1]; unfold Dat.blockOf blkIn; rw [A_eq0]; try rfl) t d).trans
    (by unfold Dat.fetched Dat.blockOf blkIn; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (blkIn V cfg0 c 0 t) (blkIn V cfg0 c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! ## The maximum of every group of 128 keys, and the first key reaching it -/

def out1a (x0 : Vec F S16x896x128 .f32) : Vec F S16x896 .f32 := k1_pay2 x0
def out1b (x0 : Vec F S16x896x128 .f32) : Vec F S16x896 .i32 := k1_pay3 x0

theorem sound_kernel1 (c : Dev nD) (E : Set ℕ) (i : grid1.Coords) (arg1 : Memref sig .tc .vmem S16x896x128 .f32) (harg1 : arg1.IsWhole) (arg2 : Memref sig .tc .vmem S16x896 .f32) (harg2 : arg2.IsWhole) (arg3 : Memref sig .tc .vmem S16x896 .i32) (harg3 : arg3.IsWhole)
    (x0 : Vec F S16x896x128 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out1a x0) ∗ owns (c : Thread nD τ) arg3 fullShare (out1b x0)) -∗ K ⟨⟩))
      ⊢ wp frame (wpE (defs₀ (F := F)) Variants.none c none) E (cc1__group_reduce_kernel i arg1 harg1 arg2 harg2 arg3 harg3) K := by
  simp only [cc1__group_reduce_kernel_eq_skeleton]; unfold cc1__group_reduce_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_full _ _ _ _ _).trans ?_
    unfold out1a
    congr 1; exact View.readAt_full _ _ _
  iexists _; isplitr
  swap; · iexact H2
  ipureintro
  refine (View.read_writes_full _ _ _ _ _).trans ?_
  unfold out1b
  congr 1; exact View.readAt_full _ _ _

def dat1 (c : Dev nD) : Dat τ (Elt F) Unit ℕ UK ℕ cfg1 c where
  A w := V c (Pipeline.arrRef spec1 w)
  after w t := match w with
    | ⟨0, _⟩ => blkIn V cfg1 c 0 t
    | ⟨1, _⟩ => out1a (blkIn V cfg1 c 0 t)
    | ⟨2, _⟩ => out1b (blkIn V cfg1 c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blkIn V cfg1 c 0 t := by dsimp only [dat1]
theorem after1_1 (c : Dev nD) (t : Fin cfg1.N) : (dat1 V c).after 1 t = out1a (blkIn V cfg1 c 0 t) := by dsimp only [dat1]
theorem after1_2 (c : Dev nD) (t : Fin cfg1.N) : (dat1 V c).after 2 t = out1b (blkIn V cfg1 c 0 t) := by dsimp only [dat1]

theorem before1_0 (c : Dev nD) (t : Fin cfg1.N) (d) : (dat1 V c).before 0 t d = blkIn V cfg1 c 0 t :=
  ((dat1 V c).before_in_eq_fetched 0 rfl (fun _ => rfl) (fun _ _ _ => rfl) (fun t => by rw [after1_0]; unfold Dat.blockOf blkIn; rw [A_eq1]; try rfl) t d).trans
    (by unfold Dat.fetched Dat.blockOf blkIn; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (blkIn V cfg1 c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! ## The selection of 64 groups -/

/-- One round of the selection: the row's best remaining group is written down and struck out. -/
def step2 (x1 : Vec F S1024x896 .i32) (k : Fin k2_t1_loop.trips) (a : FVec F S1024x896 .f32 × IVec S1024x64 32) :
    FVec F S1024x896 .f32 × IVec S1024x64 32 := (k2_pay6 x1 a.1, k2_pay5 x1 k a.1 a.2)

def out2 (x0 : Vec F S1024x896 .f32) (x1 : Vec F S1024x896 .i32) : Vec F S1024x64 .i32 :=
  (Scf.fold (step2 x1) (k2_pay1 x0, k2_pay3)).2

theorem sound_kernel2 (c : Dev nD) (E : Set ℕ) (i : grid2.Coords) (arg1 : Memref sig .tc .vmem S1024x896 .f32) (harg1 : arg1.IsWhole) (arg2 : Memref sig .tc .vmem S1024x896 .i32) (harg2 : arg2.IsWhole) (arg3 : Memref sig .tc .vmem S1024x64 .i32) (harg3 : arg3.IsWhole)
    (x0 : Vec F S1024x896 .f32) (x1 : Vec F S1024x896 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc2__group_select_kernel i arg1 harg1 arg2 harg2 arg3 harg3) K := by
  simp only [cc2__group_select_kernel_eq_skeleton]; unfold cc2__group_select_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_full _ _ _ _ _).trans ?_
  unfold sound_kernel2.sl.r
  rw [View.readAt_full, View.readAt_full]
  rfl

def dat2 (c : Dev nD) : Dat τ (Elt F) Unit ℕ UK ℕ cfg2 c where
  A w := V c (Pipeline.arrRef spec2 w)
  after w t := match w with
    | ⟨0, _⟩ => blkIn V cfg2 c 0 t
    | ⟨1, _⟩ => blkIn V cfg2 c 1 t
    | ⟨2, _⟩ => out2 (blkIn V cfg2 c 0 t) (blkIn V cfg2 c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = blkIn V cfg2 c 0 t := by dsimp only [dat2]
theorem after2_1 (c : Dev nD) (t : Fin cfg2.N) : (dat2 V c).after 1 t = blkIn V cfg2 c 1 t := by dsimp only [dat2]
theorem after2_2 (c : Dev nD) (t : Fin cfg2.N) : (dat2 V c).after 2 t = out2 (blkIn V cfg2 c 0 t) (blkIn V cfg2 c 1 t) := by dsimp only [dat2]

theorem before2_0 (c : Dev nD) (t : Fin cfg2.N) (d) : (dat2 V c).before 0 t d = blkIn V cfg2 c 0 t :=
  ((dat2 V c).before_in_eq_fetched 0 rfl (fun _ => rfl) (fun _ _ _ => rfl) (fun t => by rw [after2_0]; unfold Dat.blockOf blkIn; rw [A_eq2]; try rfl) t d).trans
    (by unfold Dat.fetched Dat.blockOf blkIn; rw [A_eq2]; try rfl)
theorem before2_1 (c : Dev nD) (t : Fin cfg2.N) (d) : (dat2 V c).before 1 t d = blkIn V cfg2 c 1 t :=
  ((dat2 V c).before_in_eq_fetched 1 rfl (fun _ => rfl) (fun _ _ _ => rfl) (fun t => by rw [after2_1]; unfold Dat.blockOf blkIn; rw [A_eq2]; try rfl) t d).trans
    (by unfold Dat.fetched Dat.blockOf blkIn; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (blkIn V cfg2 c 0 t) (blkIn V cfg2 c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-! ## The top-k of the selected groups and its softmax -/

/-- One round of the top-k: the row's best remaining key is written down, value and position, and struck out. -/
def step4 (x1 : Vec F S256x64x128 .i32) (k : Fin k4_t1_loop.trips) (a : FVec F S256x64x128 .f32 × FVec F S256x64 .f32 × IVec S256x64 32) :
    FVec F S256x64x128 .f32 × FVec F S256x64 .f32 × IVec S256x64 32 :=
  (k4_pay9 x1 a.1, k4_pay7 k a.1 a.2.1, k4_pay8 x1 k a.1 a.2.2)

def fold4 (x0 : Vec F S256x64x128 .f32) (x1 : Vec F S256x64x128 .i32) : FVec F S256x64x128 .f32 × FVec F S256x64 .f32 × IVec S256x64 32 :=
  Scf.fold (step4 x1) (k4_pay1 x0, k4_pay3 (F := F), k4_pay4)

def out4a (x0 : Vec F S256x64x128 .f32) (x1 : Vec F S256x64x128 .i32) : Vec F S256x64 .i32 := (fold4 x0 x1).2.2
def out4b (x0 : Vec F S256x64x128 .f32) (x1 : Vec F S256x64x128 .i32) : Vec F S256x64 .f32 := k4_pay10 (fold4 x0 x1).2.1

theorem sound_kernel4 (c : Dev nD) (E : Set ℕ) (i : grid4.Coords) (arg1 : Memref sig .tc .vmem S256x64x128 .f32) (harg1 : arg1.IsWhole) (arg2 : Memref sig .tc .vmem S256x64x128 .i32) (harg2 : arg2.IsWhole) (arg3 : Memref sig .tc .vmem S256x64 .i32) (harg3 : arg3.IsWhole) (arg4 : Memref sig .tc .vmem S256x64 .f32) (harg4 : arg4.IsWhole)
    (x0 : Vec F S256x64x128 .f32) (x1 : Vec F S256x64x128 .i32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out4a x0 x1) ∗ owns (c : Thread nD τ) arg4 fullShare (out4b x0 x1)) -∗ K ⟨⟩))
      ⊢ wp frame (wpE (defs₀ (F := F)) Variants.none c none) E (cc4__topk_kernel i arg1 harg1 arg2 harg2 arg3 harg3 arg4 harg4) K := by
  simp only [cc4__topk_kernel_eq_skeleton]; unfold cc4__topk_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_full _ _ _ _ _).trans ?_
    unfold sound_kernel4.sl.r; rw [View.readAt_full, View.readAt_full]
    rfl
  iexists _; isplitr
  swap; · iexact H3
  ipureintro
  refine (View.read_writes_full _ _ _ _ _).trans ?_
  unfold sound_kernel4.sl.r; rw [View.readAt_full, View.readAt_full]
  rfl

def dat4 (c : Dev nD) : Dat τ (Elt F) Unit ℕ UK ℕ cfg4 c where
  A w := V c (Pipeline.arrRef spec4 w)
  after w t := match w with
    | ⟨0, _⟩ => blkIn V cfg4 c 0 t
    | ⟨1, _⟩ => blkIn V cfg4 c 1 t
    | ⟨2, _⟩ => out4a (blkIn V cfg4 c 0 t) (blkIn V cfg4 c 1 t)
    | ⟨3, _⟩ => out4b (blkIn V cfg4 c 0 t) (blkIn V cfg4 c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = blkIn V cfg4 c 0 t := by dsimp only [dat4]
theorem after4_1 (c : Dev nD) (t : Fin cfg4.N) : (dat4 V c).after 1 t = blkIn V cfg4 c 1 t := by dsimp only [dat4]
theorem after4_2 (c : Dev nD) (t : Fin cfg4.N) : (dat4 V c).after 2 t = out4a (blkIn V cfg4 c 0 t) (blkIn V cfg4 c 1 t) := by dsimp only [dat4]
theorem after4_3 (c : Dev nD) (t : Fin cfg4.N) : (dat4 V c).after 3 t = out4b (blkIn V cfg4 c 0 t) (blkIn V cfg4 c 1 t) := by dsimp only [dat4]

theorem before4_0 (c : Dev nD) (t : Fin cfg4.N) (d) : (dat4 V c).before 0 t d = blkIn V cfg4 c 0 t :=
  ((dat4 V c).before_in_eq_fetched 0 rfl (fun _ => rfl) (fun _ _ _ => rfl) (fun t => by rw [after4_0]; unfold Dat.blockOf blkIn; rw [A_eq4]; try rfl) t d).trans
    (by unfold Dat.fetched Dat.blockOf blkIn; rw [A_eq4]; try rfl)
theorem before4_1 (c : Dev nD) (t : Fin cfg4.N) (d) : (dat4 V c).before 1 t d = blkIn V cfg4 c 1 t :=
  ((dat4 V c).before_in_eq_fetched 1 rfl (fun _ => rfl) (fun _ _ _ => rfl) (fun t => by rw [after4_1]; unfold Dat.blockOf blkIn; rw [A_eq4]; try rfl) t d).trans
    (by unfold Dat.fetched Dat.blockOf blkIn; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (blkIn V cfg4 c 0 t) (blkIn V cfg4 c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem defs₀_row4 (t : Fin cfg4.N) :
    defs₀ (F := F) .tc cfg4.body (cfg4.bodyArgs t (cfg4.slots t)) = bodyAt4 t := by
  unfold defs₀; rw [Defs.onTc_tc]

theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

end Regions

end Cert.KernelIdeal.Gen
-- ==== Proof.Gather.lean ====
/- The call that copies the selected groups. Its body is eight loops, one per row of its block, and the loops differ only
   in the row: a row's accesses are collected in a record, one trip is run once for any such record, and the eight loops are
   eight instances. What it leaves: row `r`, slot `k` holds the group the index word names, beside the columns of that group. -/
module

public import proofs.«01_k».proof.Proof.Bodies
public import Idealize.ShloMosaic.Lib.WritesUnit
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UK ℕ

/-- The group index a word names, held below the number of groups. -/
def grp (w : BitVec 32) : Fin 896 := ⟨min w.toNat 895, by omega⟩

/-- The selected groups' scores. -/
def out3a (x0 : Vec F S8x64 .i32) (x1 : Vec F S8x896x128 .f32) : Vec F S8x64x128 .f32 := fun y =>
  x1 (ix3 (n0 := 8) (n1 := 896) (n2 := 128) (y 0) (grp (x0 (ix2 (n0 := 8) (n1 := 64) (y 0) (y 1)))) (y 2))

/-- The selected groups' columns. -/
def out3b (x0 : Vec F S8x64 .i32) : Vec F S8x64x128 .i32 := fun y =>
  k3_pay2 (F := F) (x0 (ix2 (n0 := 8) (n1 := 64) (y 0) (y 1))) (ix3 (n0 := 1) (n1 := 1) (n2 := 128) 0 0 (y 2))

/-- `g` on the first `k` slots of row `r`, `y` elsewhere. -/
def ov {α : Type} (r k : Nat) (g y : S8x64x128.Idx → α) : S8x64x128.Idx → α := fun i =>
  if (i 0).val = r ∧ (i 1).val < k then g i else y i

/-- What a row's loop reads and writes: the word at `(r, k)`, the group it names, the slot `(r, k)`. -/
structure RowOffs (r : Fin 8) where
  o1 : Fin k3_t1_loop.trips → Fin 2 → Nat
  h1 : ∀ k a, o1 k a + S1x1.size a ≤ S8x64.size a
  e1 : ∀ k, o1 k = ![r.val, k.val]
  chk : BitVec 32 → Prop
  dec : ∀ v, Decidable (chk v)
  o2 : BitVec 32 → Fin 3 → Nat
  h2 : ∀ v, chk v → ∀ a, o2 v a + S1x1x128.size a ≤ S8x896x128.size a
  e2 : ∀ v, o2 v = ![r.val, v.toNat, 0]
  hchk : ∀ v : BitVec 32, v.toNat < 896 → chk v
  o3 : Fin k3_t1_loop.trips → Fin 3 → Nat
  h3 : ∀ k a, o3 k a + S1x1x128.size a ≤ S8x64x128.size a
  e3 : ∀ k, o3 k = ![r.val, k.val, 0]

/-- One trip of a row's loop. -/
def RowOffs.body {r : Fin 8} (R : RowOffs r) (arg1 : Memref sig .tc .smem S8x64 .i32) (arg2 : Memref sig .tc .vmem S8x896x128 .f32)
    (arg3 : Memref sig .tc .vmem S8x64x128 .f32) (arg4 : Memref sig .tc .vmem S8x64x128 .i32) :
    Fin k3_t1_loop.trips → Unit → Prog (TpuEff nD τ sig (Elt F) Λ₀ .tc) Unit :=
  fun k _ => do
    let w : Elt F .i32 ← smemLoad arg1 (Rect.unit (s := S8x64) (R.o1 k) S1x1.size (R.h1 k)) numel1_S1x1 rfl
    have hw : R.chk w := (← Prog.lift (TpuEff.assume (R.chk w) (R.dec w))).down
    let row : Vec F S1x1x128 .f32 ← Prog.lift (.load arg2 (Rect.unit (s := S8x896x128) (R.o2 w) S1x1x128.size (R.h2 w hw)).toLoadRect (View.loadsAt_vmem h_S1x1x128))
    let u : Vec F S1x1x128 .f32 ← Prog.lift (.load arg3 (Rect.unit (s := S8x64x128) (R.o3 k) S1x1x128.size (R.h3 k)).toLoadRect (View.loadsAt_vmem h_S1x1x128))
    Prog.lift (.store arg3 (Rect.unit (s := S8x64x128) (R.o3 k) S1x1x128.size (R.h3 k)) (k3_pay1 row) Finset.univ (View.stores_vmem_bits_univ h_S1x1x128 rfl) (.inl rfl))
    let u' : Vec F S1x1x128 .i32 ← Prog.lift (.load arg4 (Rect.unit (s := S8x64x128) (R.o3 k) S1x1x128.size (R.h3 k)).toLoadRect (View.loadsAt_vmem h_S1x1x128))
    Prog.lift (.store arg4 (Rect.unit (s := S8x64x128) (R.o3 k) S1x1x128.size (R.h3 k)) (k3_pay2 (F := F) w) Finset.univ (View.stores_vmem_bits_univ h_S1x1x128 rfl) (.inl rfl))
    pure ⟨⟩

/-- A check that the group lies in the block holds of every word below the number of groups. -/
theorem chk_of_lt {o2 : BitVec 32 → Fin 3 → Nat} (r : Fin 8) (e2 : ∀ v, o2 v = ![r.val, v.toNat, 0]) (v : BitVec 32) (h : v.toNat < 896) :
    ∀ a, o2 v a + S1x1x128.size a ≤ S8x896x128.size a := by
  intro a
  rw [e2]
  have := r.isLt
  fin_cases a
  · show r.val + 1 ≤ 8; omega
  · show v.toNat + 1 ≤ 896; omega
  · show 0 + 128 ≤ 128; omega

def row1 : RowOffs 0 := ⟨k3_off1, k3_off1_inb, k3_off1_eq, k3_chk1, k3_chk1.dec, k3_off2, k3_off2_inb, fun _ => rfl, chk_of_lt 0 fun _ => rfl, k3_off3, k3_off3_inb, k3_off3_eq⟩
def row2 : RowOffs 1 := ⟨k3_off4, k3_off4_inb, k3_off4_eq, k3_chk2, k3_chk2.dec, k3_off5, k3_off5_inb, fun _ => rfl, chk_of_lt 1 fun _ => rfl, k3_off6, k3_off6_inb, k3_off6_eq⟩
def row3 : RowOffs 2 := ⟨k3_off7, k3_off7_inb, k3_off7_eq, k3_chk3, k3_chk3.dec, k3_off8, k3_off8_inb, fun _ => rfl, chk_of_lt 2 fun _ => rfl, k3_off9, k3_off9_inb, k3_off9_eq⟩
def row4 : RowOffs 3 := ⟨k3_off10, k3_off10_inb, k3_off10_eq, k3_chk4, k3_chk4.dec, k3_off11, k3_off11_inb, fun _ => rfl, chk_of_lt 3 fun _ => rfl, k3_off12, k3_off12_inb, k3_off12_eq⟩
def row5 : RowOffs 4 := ⟨k3_off13, k3_off13_inb, k3_off13_eq, k3_chk5, k3_chk5.dec, k3_off14, k3_off14_inb, fun _ => rfl, chk_of_lt 4 fun _ => rfl, k3_off15, k3_off15_inb, k3_off15_eq⟩
def row6 : RowOffs 5 := ⟨k3_off16, k3_off16_inb, k3_off16_eq, k3_chk6, k3_chk6.dec, k3_off17, k3_off17_inb, fun _ => rfl, chk_of_lt 5 fun _ => rfl, k3_off18, k3_off18_inb, k3_off18_eq⟩
def row7 : RowOffs 6 := ⟨k3_off19, k3_off19_inb, k3_off19_eq, k3_chk7, k3_chk7.dec, k3_off20, k3_off20_inb, fun _ => rfl, chk_of_lt 6 fun _ => rfl, k3_off21, k3_off21_inb, k3_off21_eq⟩
def row8 : RowOffs 7 := ⟨k3_off22, k3_off22_inb, k3_off22_eq, k3_chk8, k3_chk8.dec, k3_off23, k3_off23_inb, fun _ => rfl, chk_of_lt 7 fun _ => rfl, k3_off24, k3_off24_inb, k3_off24_eq⟩

/-- What a row's loop holds: the two inputs, and the outputs with the row's first `k` slots written. -/
def rowInv (c : Dev nD) (r : Nat) (arg1 : Memref sig .tc .smem S8x64 .i32) (arg2 : Memref sig .tc .vmem S8x896x128 .f32)
    (arg3 : Memref sig .tc .vmem S8x64x128 .f32) (arg4 : Memref sig .tc .vmem S8x64x128 .i32)
    (x0 : Vec F S8x64 .i32) (x1 : Vec F S8x896x128 .f32) (y3 : Vec F S8x64x128 .f32) (y4 : Vec F S8x64x128 .i32) (k : Nat) : sProp 𝕄 :=
  iprop(owns (c : Thread nD τ) arg1 fullShare x0 ∗ owns (c : Thread nD τ) arg2 fullShare x1
    ∗ owns (c : Thread nD τ) arg3 fullShare (ov r k (out3a x0 x1) y3) ∗ owns (c : Thread nD τ) arg4 fullShare (ov r k (out3b x0) y4))

/-- A store of slot `(r, k)` on the row's first `k` slots written leaves its first `k + 1`. -/
theorem read_slot {e : EltTy} {sp : Space} (m : Memref sig .tc sp S8x64x128 e) (f : m.view.ty.Contents (Elt F)) (r : Fin 8) (k : Fin k3_t1_loop.trips)
    (g y : S8x64x128.Idx → Elt F e) (hf : m.view.read (Elt F) f = ov r.val k.val g y) {off : Fin 3 → Nat} (inb : ∀ a, off a + S1x1x128.size a ≤ S8x64x128.size a)
    (heq : off = ![r.val, k.val, 0]) (w : Vec F S1x1x128 e)
    (hw : ∀ l : Fin 128, w (ix3 (n0 := 1) (n1 := 1) (n2 := 128) 0 0 l) = g (ix3 (n0 := 8) (n1 := 64) (n2 := 128) r ⟨k.val, k.isLt⟩ l)) :
    m.view.read (Elt F) (m.view.writes (Elt F) f [⟨Rect.unit off S1x1x128.size inb, w⟩]) = ov r.val (k.val + 1) g y := by
  funext i
  have hk : k.val < 64 := k.isLt
  obtain ⟨i0, i1, i2, rfl⟩ : ∃ (i0 : Fin 8) (i1 : Fin 64) (i2 : Fin 128), i = ix3 i0 i1 i2 := ⟨i 0, i 1, i 2, eq_ix3 i⟩
  by_cases h0 : i0.val = r.val ∧ i1.val = k.val
  · rw [View.read_writes_cons_unit_of_mem m.view f inb w [] (ix3 i0 i1 i2) (ix3 (n0 := 1) (n1 := 1) (n2 := 128) 0 0 i2) heq (by
      intro a; fin_cases a
      · show i0.val = r.val + 0; omega
      · show i1.val = k.val + 0; omega
      · show i2.val = 0 + i2.val; omega), hw]
    unfold ov
    rw [if_pos ⟨h0.1, by show i1.val < _; omega⟩]
    congr 1
    congr 1
    · exact Fin.ext h0.1.symm
    · exact Fin.ext h0.2.symm
  · have e : m.view.read (Elt F) (m.view.writes (Elt F) f [⟨Rect.unit off S1x1x128.size inb, w⟩]) (ix3 i0 i1 i2) = m.view.read (Elt F) f (ix3 i0 i1 i2) := by
      by_cases h1 : i0.val = r.val
      · refine (View.read_writes_cons_unit_of_not_mem m.view f inb w [] (ix3 i0 i1 i2) heq 1 ?_).trans rfl
        show i1.val < k.val ∨ k.val + 1 ≤ i1.val
        omega
      · refine (View.read_writes_cons_unit_of_not_mem m.view f inb w [] (ix3 i0 i1 i2) heq 0 ?_).trans rfl
        show i0.val < r.val ∨ r.val + 1 ≤ i0.val
        omega
    rw [e, hf]
    unfold ov
    have : (i0.val = r.val ∧ i1.val < k.val) ↔ (i0.val = r.val ∧ i1.val < k.val + 1) := by omega
    exact if_congr this rfl rfl

/-- The word a row's trip reads. -/
theorem word_eq (arg1 : Memref sig .tc .smem S8x64 .i32) (f : arg1.view.ty.Contents (Elt F)) (r : Fin 8) (k : Fin k3_t1_loop.trips)
    {off : Fin 2 → Nat} (inb : ∀ a, off a + S1x1.size a ≤ S8x64.size a) (heq : off = ![r.val, k.val]) (p : (Rect.unit (s := S8x64) off S1x1.size inb).toLoadRect.shape.Idx) :
    arg1.view.readAt (Elt F) (Rect.unit (s := S8x64) off S1x1.size inb).toLoadRect f p
      = arg1.view.read (Elt F) f (ix2 (n0 := 8) (n1 := 64) r ⟨k.val, k.isLt⟩) := by
  subst heq
  show arg1.view.read (Elt F) f _ = _
  congr 1
  funext a
  apply Fin.ext
  have hp0 : (p 0).val = 0 := by have : (p 0).val < 1 := (p 0).isLt; omega
  have hp1 : (p 1).val = 0 := by have : (p 1).val < 1 := (p 1).isLt; omega
  fin_cases a
  · show r.val + 1 * (p 0).val = r.val; omega
  · show k.val + 1 * (p 1).val = k.val; omega

/-- The row a trip copies: the group its word names. -/
theorem row_eq (arg2 : Memref sig .tc .vmem S8x896x128 .f32) (f : arg2.view.ty.Contents (Elt F)) (r : Fin 8) (v : BitVec 32)
    {off : Fin 3 → Nat} (inb : ∀ a, off a + S1x1x128.size a ≤ S8x896x128.size a) (heq : off = ![r.val, v.toNat, 0]) (hv : v.toNat < 896) (l : Fin 128) :
    k3_pay1 (arg2.view.readAt (Elt F) (Rect.unit (s := S8x896x128) off S1x1x128.size inb).toLoadRect f) (ix3 (n0 := 1) (n1 := 1) (n2 := 128) 0 0 l)
      = arg2.view.read (Elt F) f (ix3 (n0 := 8) (n1 := 896) (n2 := 128) r (grp v) l) := by
  subst heq
  have h : ∀ q : Vec F S1x1x128 .f32, k3_pay1 q = q := fun q => shapeCast_shapeCast q _ _
  rw [h]
  refine congrArg (arg2.view.read (Elt F) f) (funext fun a => Fin.ext ?_)
  fin_cases a
  · show r.val + 1 * 0 = r.val; omega
  · show v.toNat + 1 * 0 = min v.toNat 895; omega
  · show 0 + 1 * l.val = l.val; omega

instance {r : Fin 8} (R : RowOffs r) (k) : ClosedOff (R.o1 k) := ⟨_, R.e1 k⟩
instance {r : Fin 8} (R : RowOffs r) (k) : ClosedOff (R.o3 k) := ⟨_, R.e3 k⟩

theorem row_trip {r : Fin 8} (R : RowOffs r) (c : Dev nD) (E : Set ℕ) (arg1 : Memref sig .tc .smem S8x64 .i32) (arg2 : Memref sig .tc .vmem S8x896x128 .f32)
    (arg3 : Memref sig .tc .vmem S8x64x128 .f32) (arg4 : Memref sig .tc .vmem S8x64x128 .i32)
    (x0 : Vec F S8x64 .i32) (x1 : Vec F S8x896x128 .f32) (hx : ∀ i, (x0 i).toNat < 896) (y3 : Vec F S8x64x128 .f32) (y4 : Vec F S8x64x128 .i32)
    (k : Fin k3_t1_loop.trips) (acc : Unit) :
    rowInv c r.val arg1 arg2 arg3 arg4 x0 x1 y3 y4 k.val
      ⊢ wp frame (wpE (defs₀ (F := F)) Variants.none c none) E (R.body arg1 arg2 arg3 arg4 k acc)
          (fun _ => rowInv c r.val arg1 arg2 arg3 arg4 x0 x1 y3 y4 (k.val + 1)) := by
  unfold rowInv owns RowOffs.body
  iintro ⟨⟨%f0, %hf0, H0⟩, ⟨%f1, %hf1, H1⟩, ⟨%f2, %hf2, H2⟩, ⟨%f3, %hf3, H3⟩⟩
  have hw := word_eq arg1 f0 r k (R.h1 k) (R.e1 k) (Shape.Idx.first (numel1_S1x1.symm ▸ Nat.one_pos))
  have hlt' := (congrArg BitVec.toNat (hw.trans (congrFun hf0 _))).trans_lt (hx _)
  have hchk : R.chk (arg1.view.readAt (Elt F) (Rect.unit (s := S8x64) (R.o1 k) S1x1.size (R.h1 k)).toLoadRect f0 (Shape.Idx.first (numel1_S1x1.symm ▸ Nat.one_pos))) :=
    R.hchk _ hlt'
  sl_exec
  sl_step
  isplitl [H0]
  · iexists f0; isplitr
    · ipureintro; exact hf0
    iexact H0
  isplitl [H1]
  · iexists f1; isplitr
    · ipureintro; exact hf1
    iexact H1
  isplitl [H2]
  · iexists _; isplitr
    swap; · iexact H2
    ipureintro
    refine read_slot arg3 f2 r k _ _ hf2 (R.h3 k) (R.e3 k) _ fun l => ?_
    refine (row_eq arg2 f1 r _ (R.h2 _ hchk) (R.e2 _) hlt' l).trans ?_
    rw [hf1, hw, hf0]
    rfl
  iexists _; isplitr
  swap; · iexact H3
  ipureintro
  refine read_slot arg4 f3 r k _ _ hf3 (R.h3 k) (R.e3 k) _ fun l => ?_
  exact congrArg (fun w => k3_pay2 (F := F) w (ix3 (n0 := 1) (n1 := 1) (n2 := 128) 0 0 l)) (hw.trans (congrFun hf0 _))

/-- A row's loop writes the row. -/
theorem row_for {r : Fin 8} (R : RowOffs r) (c : Dev nD) (E : Set ℕ) (arg1 : Memref sig .tc .smem S8x64 .i32) (arg2 : Memref sig .tc .vmem S8x896x128 .f32)
    (arg3 : Memref sig .tc .vmem S8x64x128 .f32) (arg4 : Memref sig .tc .vmem S8x64x128 .i32)
    (x0 : Vec F S8x64 .i32) (x1 : Vec F S8x896x128 .f32) (hx : ∀ i, (x0 i).toNat < 896) (y3 : Vec F S8x64x128 .f32) (y4 : Vec F S8x64x128 .i32) (hok : k3_t1_loop.OK) :
    (iprop(owns (c : Thread nD τ) arg1 fullShare x0 ∗ owns (c : Thread nD τ) arg2 fullShare x1 ∗ owns (c : Thread nD τ) arg3 fullShare y3 ∗ owns (c : Thread nD τ) arg4 fullShare y4) : sProp 𝕄)
      ⊢ wp frame (wpE (defs₀ (F := F)) Variants.none c none) E (Scf.Loop.for k3_t1_loop hok ⟨⟩ (R.body arg1 arg2 arg3 arg4))
          (fun _ => iprop(owns (c : Thread nD τ) arg1 fullShare x0 ∗ owns (c : Thread nD τ) arg2 fullShare x1
            ∗ owns (c : Thread nD τ) arg3 fullShare (ov r.val 64 (out3a x0 x1) y3) ∗ owns (c : Thread nD τ) arg4 fullShare (ov r.val 64 (out3b x0) y4))) := by
  have h3 : ∀ {α : Type} (g y : S8x64x128.Idx → α), ov r.val 0 g y = y := fun g y => funext fun i => if_neg (by omega)
  have h : (iprop(owns (c : Thread nD τ) arg1 fullShare x0 ∗ owns (c : Thread nD τ) arg2 fullShare x1 ∗ owns (c : Thread nD τ) arg3 fullShare y3 ∗ owns (c : Thread nD τ) arg4 fullShare y4) : sProp 𝕄)
      = rowInv c r.val arg1 arg2 arg3 arg4 x0 x1 y3 y4 0 := by
    unfold rowInv; rw [h3, h3]
  rw [h]
  iintro HI
  iapply (Scf.wp_for frame (wpE (defs₀ (F := F)) Variants.none c none) E k3_t1_loop.lb k3_t1_loop.ub k3_t1_loop.st hok ⟨⟩ (R.body arg1 arg2 arg3 arg4)
    (fun k _ => rowInv c r.val arg1 arg2 arg3 arg4 x0 x1 y3 y4 k) (row_trip R c E arg1 arg2 arg3 arg4 x0 x1 hx y3 y4))
  isplitl [HI]; · iexact HI
  iintro %_ HI
  rw [show Scf.trips k3_t1_loop.lb k3_t1_loop.ub k3_t1_loop.st = 64 from by decide]
  unfold rowInv
  iexact HI

/-- The eight rows are the block. -/
theorem ov_all {α : Type} (g y : S8x64x128.Idx → α) :
    ov 7 64 g (ov 6 64 g (ov 5 64 g (ov 4 64 g (ov 3 64 g (ov 2 64 g (ov 1 64 g (ov 0 64 g y))))))) = g := by
  funext i
  have h1 : (i 1).val < 64 := (i 1).isLt
  have h0 : (i 0).val < 8 := (i 0).isLt
  unfold ov
  repeat' split
  all_goals first | rfl | (exfalso; omega)

theorem rows (c : Dev nD) (E : Set ℕ) (i : grid3.Coords) (arg1 : Memref sig .tc .smem S8x64 .i32) (harg1 : arg1.IsWhole) (arg2 : Memref sig .tc .vmem S8x896x128 .f32) (harg2 : arg2.IsWhole) (arg3 : Memref sig .tc .vmem S8x64x128 .f32) (harg3 : arg3.IsWhole) (arg4 : Memref sig .tc .vmem S8x64x128 .i32) (harg4 : arg4.IsWhole)
    (x0 : Vec F S8x64 .i32) (x1 : Vec F S8x896x128 .f32) (hx : ∀ i, (x0 i).toNat < 896) (y3 : Vec F S8x64x128 .f32) (y4 : Vec F S8x64x128 .i32) :
    (iprop(owns (c : Thread nD τ) arg1 fullShare x0 ∗ owns (c : Thread nD τ) arg2 fullShare x1 ∗ owns (c : Thread nD τ) arg3 fullShare y3 ∗ owns (c : Thread nD τ) arg4 fullShare y4) : sProp 𝕄)
      ⊢ wp frame (wpE (defs₀ (F := F)) Variants.none c none) E (cc3__gather_kernel_skel i arg1 harg1 arg2 harg2 arg3 harg3 arg4 harg4)
          (fun _ => iprop(owns (c : Thread nD τ) arg1 fullShare x0 ∗ owns (c : Thread nD τ) arg2 fullShare x1
            ∗ owns (c : Thread nD τ) arg3 fullShare (out3a x0 x1) ∗ owns (c : Thread nD τ) arg4 fullShare (out3b x0))) := by
  rw [← ov_all (out3a x0 x1) y3, ← ov_all (out3b (F := F) x0) y4]
  unfold cc3__gather_kernel_skel
  simp only [wp_bind]
  refine (row_for row1 c E arg1 arg2 arg3 arg4 x0 x1 hx _ _ k3_t1_ok).trans (wp_mono _ _ _ fun _ => ?_)
  refine (row_for row2 c E arg1 arg2 arg3 arg4 x0 x1 hx _ _ k3_t2_ok).trans (wp_mono _ _ _ fun _ => ?_)
  refine (row_for row3 c E arg1 arg2 arg3 arg4 x0 x1 hx _ _ k3_t3_ok).trans (wp_mono _ _ _ fun _ => ?_)
  refine (row_for row4 c E arg1 arg2 arg3 arg4 x0 x1 hx _ _ k3_t4_ok).trans (wp_mono _ _ _ fun _ => ?_)
  refine (row_for row5 c E arg1 arg2 arg3 arg4 x0 x1 hx _ _ k3_t5_ok).trans (wp_mono _ _ _ fun _ => ?_)
  refine (row_for row6 c E arg1 arg2 arg3 arg4 x0 x1 hx _ _ k3_t6_ok).trans (wp_mono _ _ _ fun _ => ?_)
  refine (row_for row7 c E arg1 arg2 arg3 arg4 x0 x1 hx _ _ k3_t7_ok).trans (wp_mono _ _ _ fun _ => ?_)
  refine (row_for row8 c E arg1 arg2 arg3 arg4 x0 x1 hx _ _ k3_t8_ok).trans (wp_mono _ _ _ fun _ => ?_)
  iintro H
  sl_step
  iexact H

theorem sound_kernel3 (c : Dev nD) (E : Set ℕ) (i : grid3.Coords) (arg1 : Memref sig .tc .smem S8x64 .i32) (harg1 : arg1.IsWhole) (arg2 : Memref sig .tc .vmem S8x896x128 .f32) (harg2 : arg2.IsWhole) (arg3 : Memref sig .tc .vmem S8x64x128 .f32) (harg3 : arg3.IsWhole) (arg4 : Memref sig .tc .vmem S8x64x128 .i32) (harg4 : arg4.IsWhole)
    (x0 : Vec F S8x64 .i32) (x1 : Vec F S8x896x128 .f32) (hx : ∀ i, (x0 i).toNat < 896) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out3a x0 x1) ∗ owns (c : Thread nD τ) arg4 fullShare (out3b x0)) -∗ K ⟨⟩))
      ⊢ wp frame (wpE (defs₀ (F := F)) Variants.none c none) E (cc3__gather_kernel i arg1 harg1 arg2 harg2 arg3 harg3 arg4 harg4) K := by
  rw [cc3__gather_kernel_eq_skeleton]
  iintro ⟨H0, H1, ⟨%d2, H2⟩, ⟨%d3, H3⟩, Hk⟩
  iapply (wp_wand_r frame (wpE (defs₀ (F := F)) Variants.none c none) E)
  isplitr [Hk]
  · iapply (rows c E i arg1 harg1 arg2 harg2 arg3 harg3 arg4 harg4 x0 x1 hx d2 d3)
    isplitl [H0]; · iexact H0
    isplitl [H1]; · iexact H1
    isplitl [H2]; · iexact H2
    iexact H3
  iintro %_ ⟨H0, H1, H2, H3⟩
  iapply Hk
  isplitl [H0]; · iexact H0
  isplitl [H1]; · iexact H1
  isplitl [H2]; · iexact H2
  iexact H3

section Regions
variable (V : (c : Dev nD) → (b : Ref sig .tc) → Buf (Elt F) ((c : Thread nD τ).loc b))

def dat3 (c : Dev nD) : Dat τ (Elt F) Unit ℕ UK ℕ cfg3 c where
  A w := V c (Pipeline.arrRef spec3 w)
  after w t := match w with
    | ⟨0, _⟩ => blkIn V cfg3 c 0 t
    | ⟨1, _⟩ => blkIn V cfg3 c 1 t
    | ⟨2, _⟩ => out3a (blkIn V cfg3 c 0 t) (blkIn V cfg3 c 1 t)
    | ⟨3, _⟩ => out3b (blkIn V cfg3 c 0 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = blkIn V cfg3 c 0 t := by dsimp only [dat3]
theorem after3_1 (c : Dev nD) (t : Fin cfg3.N) : (dat3 V c).after 1 t = blkIn V cfg3 c 1 t := by dsimp only [dat3]
theorem after3_2 (c : Dev nD) (t : Fin cfg3.N) : (dat3 V c).after 2 t = out3a (blkIn V cfg3 c 0 t) (blkIn V cfg3 c 1 t) := by dsimp only [dat3]
theorem after3_3 (c : Dev nD) (t : Fin cfg3.N) : (dat3 V c).after 3 t = out3b (blkIn V cfg3 c 0 t) := by dsimp only [dat3]

theorem before3_0 (c : Dev nD) (t : Fin cfg3.N) (d) : (dat3 V c).before 0 t d = blkIn V cfg3 c 0 t :=
  ((dat3 V c).before_in_eq_fetched 0 rfl (fun _ => rfl) (fun _ _ _ => rfl) (fun t => by rw [after3_0]; unfold Dat.blockOf blkIn; rw [A_eq3]; try rfl) t d).trans
    (by unfold Dat.fetched Dat.blockOf blkIn; rw [A_eq3]; try rfl)
theorem before3_1 (c : Dev nD) (t : Fin cfg3.N) (d) : (dat3 V c).before 1 t d = blkIn V cfg3 c 1 t :=
  ((dat3 V c).before_in_eq_fetched 1 rfl (fun _ => rfl) (fun _ _ _ => rfl) (fun t => by rw [after3_1]; unfold Dat.blockOf blkIn; rw [A_eq3]; try rfl) t d).trans
    (by unfold Dat.fetched Dat.blockOf blkIn; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (hx : ∀ (t : Fin cfg3.N) (i : S8x64.Idx), ((blkIn V cfg3 c 0 t : S8x64.Idx → BitVec 32) i).toNat < 896) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (blkIn V cfg3 c 0 t) (blkIn V cfg3 c 1 t) (hx t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem defs₀_row3 (t : Fin cfg3.N) :
    defs₀ (F := F) .tc cfg3.body (cfg3.bodyArgs t (cfg3.slots t)) = bodyAt3 t := by
  unfold defs₀; rw [Defs.onTc_tc]

theorem body_obligation3 (c : Dev nD) (hx : ∀ (t : Fin cfg3.N) (i : S8x64.Idx), ((blkIn V cfg3 c 0 t : S8x64.Idx → BitVec 32) i).toNat < 896) : BodyObligation (dat3 (F := F) V c) (defs₀ (F := F)) Variants.none () Set.univ := fun t => by
  rw [bigSep_W3, bigSep_W3, defs₀_row3]
  exact triple_restated (sound_body3 V c hx t) rfl .rfl fun _ => .rfl

end Regions

end Cert.KernelIdeal.Gen
-- ==== Proof.Wsum.lean ====
/- The call that sums the weighted values. At the first point it copies the values into its scratch, which every later point
   finds there; at every point it adds, slot by slot, the weighted row of values each of its eight index words names. -/
module

public import proofs.«01_k».proof.Proof.Bodies
public import Idealize.ShloMosaic.Lib.WritesUnit
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UK ℕ

/-- The row of values an index word names, held below the number of rows. -/
def vrow (x5 : Vec F S100000x128 .f32) (w : BitVec 32) : Vec F S1x128 .f32 := fun p =>
  x5 (ix2 (n0 := 100000) (n1 := 128) ⟨min w.toNat 99999, by omega⟩ (p 1))

/-- One slot added: the body's own operations, at the eight words and weights of slot `k`. -/
def wstep (x0 : Vec F S8x64 .i32) (x1 : Vec F S8x64 .f32) (x5 : Vec F S100000x128 .f32) (k : Fin 64) (acc : FVec F S8x128 .f32) : FVec F S8x128 .f32 :=
  let w : Fin 8 → BitVec 32 := fun j => x0 (ix2 (n0 := 8) (n1 := 64) j k)
  let s : Fin 8 → Elt F .f32 := fun j => x1 (ix2 (n0 := 8) (n1 := 64) j k)
  let v3 : IVec S8x128 32 := iota .tc S8x128 32 [0] iota_S8x128_d0_w32
  k5_pay2 (k5_pay6 v3 (k5_pay3 v3 acc (s 0) (vrow x5 (w 0)) (s 1) (vrow x5 (w 1))) (k5_pay4 v3) (Scalar.ofBits .f32 0x00000000#32)
      (k5_pay5 (s 2) (vrow x5 (w 2))) (s 3) (vrow x5 (w 3)) (s 4) (vrow x5 (w 4)))
    (k5_pay7 (s 5) (vrow x5 (w 5))) k5_pay8 (s 6) (vrow x5 (w 6)) (s 7) (vrow x5 (w 7))

/-- The running sum before slot `k`. -/
def wst (x0 : Vec F S8x64 .i32) (x1 : Vec F S8x64 .f32) (x5 : Vec F S100000x128 .f32) : Nat → FVec F S8x128 .f32
  | 0 => k5_pay1
  | k + 1 => if h : k < 64 then wstep x0 x1 x5 ⟨k, h⟩ (wst x0 x1 x5 k) else wst x0 x1 x5 k

/-- The weighted sum of a block of rows. -/
def out5 (x0 : Vec F S8x64 .i32) (x1 : Vec F S8x64 .f32) (x5 : Vec F S100000x128 .f32) : Vec F S8x128 .f32 := wst x0 x1 x5 64

/-- A word or a weight read at `(r, k)`. -/
theorem cell_eq {e : EltTy} {sp : Space} (m : Memref sig .tc sp S8x64 e) (f : m.view.ty.Contents (Elt F)) (r : Fin 8) (k : Fin k5_t1_loop.trips)
    {off : Fin 2 → Nat} (inb : ∀ a, off a + S1x1.size a ≤ S8x64.size a) (heq : off = ![r.val, k.val]) (p : (Rect.unit (s := S8x64) off S1x1.size inb).toLoadRect.shape.Idx) :
    m.view.readAt (Elt F) (Rect.unit (s := S8x64) off S1x1.size inb).toLoadRect f p
      = m.view.read (Elt F) f (ix2 (n0 := 8) (n1 := 64) r ⟨k.val, k.isLt⟩) := by
  subst heq
  have hp0 : (p 0).val = 0 := by have : (p 0).val < 1 := (p 0).isLt; omega
  have hp1 : (p 1).val = 0 := by have : (p 1).val < 1 := (p 1).isLt; omega
  refine congrArg (m.view.read (Elt F) f) (funext fun a => Fin.ext ?_)
  fin_cases a
  · show r.val + 1 * (p 0).val = r.val; omega
  · show k.val + 1 * (p 1).val = k.val; omega

/-- The row read at a word in range. -/
theorem vrow_eq (m : Memref sig .tc .vmem S100000x128 .f32) (f : m.view.ty.Contents (Elt F)) (w : BitVec 32)
    {off : Fin 2 → Nat} (inb : ∀ a, off a + S1x128.size a ≤ S100000x128.size a) (heq : off = ![w.toNat, 0]) (hw : w.toNat < 100000) :
    m.view.readAt (Elt F) (Rect.unit (s := S100000x128) off S1x128.size inb).toLoadRect f = vrow (m.view.read (Elt F) f) w := by
  subst heq
  funext p
  have hp0 : (p 0).val = 0 := by have : (p 0).val < 1 := (p 0).isLt; omega
  refine congrArg (m.view.read (Elt F) f) (funext fun a => Fin.ext ?_)
  fin_cases a
  · show w.toNat + 1 * (p 0).val = min w.toNat 99999; omega
  · show 0 + 1 * (p 1).val = (p 1).val; omega

/-- A check that a row lies in the values holds of every word below their number. -/
theorem vchk_of_lt {o : BitVec 32 → Fin 2 → Nat} (e : ∀ v, o v = ![v.toNat, 0]) (v : BitVec 32) (h : v.toNat < 100000) :
    ∀ a, o v a + S1x128.size a ≤ S100000x128.size a := by
  intro a
  rw [e]
  fin_cases a
  · show v.toNat + 1 ≤ 100000; omega
  · show 0 + 128 ≤ 128; omega

/-- The step is a function of the eight words, weights and rows a trip reads. -/
theorem wstep_congr (x0 : Vec F S8x64 .i32) (x1 : Vec F S8x64 .f32) (x5 : Vec F S100000x128 .f32) (k : Fin 64) (acc : FVec F S8x128 .f32)
    {s0 s1 s2 s3 s4 s5 s6 s7 : Elt F .f32} {r0 r1 r2 r3 r4 r5 r6 r7 : Vec F S1x128 .f32}
    (hs : ∀ j : Fin 8, (![s0, s1, s2, s3, s4, s5, s6, s7] : Fin 8 → Elt F .f32) j = x1 (ix2 (n0 := 8) (n1 := 64) j k))
    (hr : ∀ j : Fin 8, (![r0, r1, r2, r3, r4, r5, r6, r7] : Fin 8 → Vec F S1x128 .f32) j = vrow x5 (x0 (ix2 (n0 := 8) (n1 := 64) j k))) :
    k5_pay2 (k5_pay6 (iota .tc S8x128 32 [0] iota_S8x128_d0_w32) (k5_pay3 (iota .tc S8x128 32 [0] iota_S8x128_d0_w32) acc s0 r0 s1 r1)
        (k5_pay4 (iota .tc S8x128 32 [0] iota_S8x128_d0_w32)) (Scalar.ofBits .f32 0x00000000#32) (k5_pay5 s2 r2) s3 r3 s4 r4)
      (k5_pay7 s5 r5) k5_pay8 s6 r6 s7 r7 = wstep x0 x1 x5 k acc := by
  unfold wstep
  obtain rfl : s0 = _ := hs 0
  obtain rfl : s1 = _ := hs 1
  obtain rfl : s2 = _ := hs 2
  obtain rfl : s3 = _ := hs 3
  obtain rfl : s4 = _ := hs 4
  obtain rfl : s5 = _ := hs 5
  obtain rfl : s6 = _ := hs 6
  obtain rfl : s7 = _ := hs 7
  obtain rfl : r0 = _ := hr 0
  obtain rfl : r1 = _ := hr 1
  obtain rfl : r2 = _ := hr 2
  obtain rfl : r3 = _ := hr 3
  obtain rfl : r4 = _ := hr 4
  obtain rfl : r5 = _ := hr 5
  obtain rfl : r6 = _ := hr 6
  obtain rfl : r7 = _ := hr 7
  rfl

/-- The values, which stay in HBM for the body to copy itself. -/
abbrev hbM5 : Memref sig .tc .hbm S100000x128 .f32 := Memref.whole main_arg2
/-- A buffer of device memory, and it held whole. -/
abbrev HbBuf5 (c : Dev nD) {sp : Space} {S : Shape} {e : EltTy} (M : Memref sig .tc sp S e) : Type := Buf (Elt F) (M.view.loc (c : Thread nD τ))
abbrev hbPt5 (c : Dev nD) {sp : Space} {S : Shape} {e : EltTy} (M : Memref sig .tc sp S e) (f : HbBuf5 (F := F) c M) : sProp 𝕄 :=
  M.view.loc (c : Thread nD τ) ↦{fullShare} f

section Trip
variable (c : Dev nD) (E : Set ℕ) (i : grid5.Coords) (arg1 : Memref sig .tc .smem S8x64 .i32) (harg1 : arg1.IsWhole) (arg2 : Memref sig .tc .smem S8x64 .f32) (harg2 : arg2.IsWhole)
  (arg3 : Memref sig .tc .hbm S100000x128 .f32) (harg3 : arg3.IsWhole) (arg4 : Memref sig .tc .vmem S8x128 .f32) (harg4 : arg4.IsWhole)
  (arg5 : Memref sig .tc .vmem S100000x128 .f32) (harg5 : arg5.IsWhole) (arg6 : DmaSems sig S_)

set_option maxHeartbeats 1000000 in
theorem wsum_trip (x0 : Vec F S8x64 .i32) (x1 : Vec F S8x64 .f32) (x5 : Vec F S100000x128 .f32) (hx : ∀ i, (x0 i).toNat < 100000)
    (k : Fin k5_t1_loop.trips) (acc : FVec F S8x128 .f32) :
    (iprop(owns (c : Thread nD τ) arg1 fullShare x0 ∗ owns (c : Thread nD τ) arg2 fullShare x1 ∗ owns (c : Thread nD τ) arg5 fullShare x5 ∗ ⌜acc = wst x0 x1 x5 k.val⌝) : sProp 𝕄)
      ⊢ wp frame (wpE (defs₀ (F := F)) Variants.none c none) E
          (k5_t1_body i arg1 harg1 arg2 harg2 arg3 harg3 arg4 harg4 arg5 harg5 arg6 (iota .tc S8x128 32 [0] iota_S8x128_d0_w32) k acc)
          (fun acc => iprop(owns (c : Thread nD τ) arg1 fullShare x0 ∗ owns (c : Thread nD τ) arg2 fullShare x1 ∗ owns (c : Thread nD τ) arg5 fullShare x5
            ∗ ⌜acc = wst x0 x1 x5 (k.val + 1)⌝)) := by
  unfold owns k5_t1_body
  simp only [k5_part1_eq_skeleton, k5_part2_eq_skeleton]
  unfold k5_part1_skel k5_part2_skel
  iintro ⟨⟨%f0, %hf0, H0⟩, ⟨%f1, %hf1, H1⟩, ⟨%f5, %hf5, H5⟩, %hacc⟩
  have hw : ∀ (r : Fin 8) {off : Fin 2 → Nat} (inb : ∀ a, off a + S1x1.size a ≤ S8x64.size a) (heq : off = ![r.val, k.val]) p,
      arg1.view.readAt (Elt F) (Rect.unit (s := S8x64) off S1x1.size inb).toLoadRect f0 p = x0 (ix2 (n0 := 8) (n1 := 64) r ⟨k.val, k.isLt⟩) :=
    fun r off inb heq p => (cell_eq arg1 f0 r k inb heq p).trans (congrFun hf0 _)
  have hs : ∀ (r : Fin 8) {off : Fin 2 → Nat} (inb : ∀ a, off a + S1x1.size a ≤ S8x64.size a) (heq : off = ![r.val, k.val]) p,
      arg2.view.readAt (Elt F) (Rect.unit (s := S8x64) off S1x1.size inb).toLoadRect f1 p = x1 (ix2 (n0 := 8) (n1 := 64) r ⟨k.val, k.isLt⟩) :=
    fun r off inb heq p => (cell_eq arg2 f1 r k inb heq p).trans (congrFun hf1 _)
  have hl : ∀ (r : Fin 8) {off : Fin 2 → Nat} (inb : ∀ a, off a + S1x1.size a ≤ S8x64.size a) (heq : off = ![r.val, k.val]) p,
      BitVec.toNat (arg1.view.readAt (Elt F) (Rect.unit (s := S8x64) off S1x1.size inb).toLoadRect f0 p : BitVec 32) < 100000 :=
    fun r off inb heq p => (congrArg BitVec.toNat (hw r inb heq p)).trans_lt (hx _)
  have hv : ∀ (r : Fin 8) {off : Fin 2 → Nat} (inb : ∀ a, off a + S1x1.size a ≤ S8x64.size a) (heq : off = ![r.val, k.val]) p
      {off' : Fin 2 → Nat} (inb' : ∀ a, off' a + S1x128.size a ≤ S100000x128.size a)
      (heq' : off' = ![BitVec.toNat (arg1.view.readAt (Elt F) (Rect.unit (s := S8x64) off S1x1.size inb).toLoadRect f0 p : BitVec 32), 0]),
      arg5.view.readAt (Elt F) (Rect.unit (s := S100000x128) off' S1x128.size inb').toLoadRect f5 = vrow x5 (x0 (ix2 (n0 := 8) (n1 := 64) r ⟨k.val, k.isLt⟩)) := by
    intro r off inb heq p off' inb' heq'
    rw [vrow_eq arg5 f5 _ inb' heq' (hl r inb heq p), hf5, hw r inb heq p]
  have c1 : k5_chk1 _ := vchk_of_lt (fun _ => rfl) _ (hl 0 (k5_off1_inb k) (k5_off1_eq k) (Shape.Idx.first (numel1_S1x1.symm ▸ Nat.one_pos)))
  have c2 : k5_chk2 _ := vchk_of_lt (fun _ => rfl) _ (hl 1 (k5_off3_inb k) (k5_off3_eq k) (Shape.Idx.first (numel1_S1x1.symm ▸ Nat.one_pos)))
  have c3 : k5_chk3 _ := vchk_of_lt (fun _ => rfl) _ (hl 2 (k5_off5_inb k) (k5_off5_eq k) (Shape.Idx.first (numel1_S1x1.symm ▸ Nat.one_pos)))
  have c4 : k5_chk4 _ := vchk_of_lt (fun _ => rfl) _ (hl 3 (k5_off7_inb k) (k5_off7_eq k) (Shape.Idx.first (numel1_S1x1.symm ▸ Nat.one_pos)))
  have c5 : k5_chk5 _ := vchk_of_lt (fun _ => rfl) _ (hl 4 (k5_off9_inb k) (k5_off9_eq k) (Shape.Idx.first (numel1_S1x1.symm ▸ Nat.one_pos)))
  have c6 : k5_chk6 _ := vchk_of_lt (fun _ => rfl) _ (hl 5 (k5_off11_inb k) (k5_off11_eq k) (Shape.Idx.first (numel1_S1x1.symm ▸ Nat.one_pos)))
  have c7 : k5_chk7 _ := vchk_of_lt (fun _ => rfl) _ (hl 6 (k5_off13_inb k) (k5_off13_eq k) (Shape.Idx.first (numel1_S1x1.symm ▸ Nat.one_pos)))
  have c8 : k5_chk8 _ := vchk_of_lt (fun _ => rfl) _ (hl 7 (k5_off15_inb k) (k5_off15_eq k) (Shape.Idx.first (numel1_S1x1.symm ▸ Nat.one_pos)))
  sl_exec
  sl_step
  isplitl [H0]
  · iexists f0; isplitr
    · ipureintro; exact hf0
    iexact H0
  isplitl [H1]
  · iexists f1; isplitr
    · ipureintro; exact hf1
    iexact H1
  isplitl [H5]
  · iexists f5; isplitr
    · ipureintro; exact hf5
    iexact H5
  ipureintro
  have hst : wst x0 x1 x5 (k.val + 1) = wstep x0 x1 x5 ⟨k.val, k.isLt⟩ acc := by rw [hacc]; exact dif_pos k.isLt
  rw [hst]
  refine wstep_congr x0 x1 x5 ⟨k.val, k.isLt⟩ acc (fun j => ?_) (fun j => ?_)
  · fin_cases j
    exacts [hs 0 (k5_off1_inb k) (k5_off1_eq k) _, hs 1 (k5_off3_inb k) (k5_off3_eq k) _, hs 2 (k5_off5_inb k) (k5_off5_eq k) _, hs 3 (k5_off7_inb k) (k5_off7_eq k) _, hs 4 (k5_off9_inb k) (k5_off9_eq k) _, hs 5 (k5_off11_inb k) (k5_off11_eq k) _, hs 6 (k5_off13_inb k) (k5_off13_eq k) _, hs 7 (k5_off15_inb k) (k5_off15_eq k) _]
  · fin_cases j
    exacts [hv 0 (k5_off1_inb k) (k5_off1_eq k) _ _ rfl, hv 1 (k5_off3_inb k) (k5_off3_eq k) _ _ rfl, hv 2 (k5_off5_inb k) (k5_off5_eq k) _ _ rfl, hv 3 (k5_off7_inb k) (k5_off7_eq k) _ _ rfl, hv 4 (k5_off9_inb k) (k5_off9_eq k) _ _ rfl, hv 5 (k5_off11_inb k) (k5_off11_eq k) _ _ rfl, hv 6 (k5_off13_inb k) (k5_off13_eq k) _ _ rfl, hv 7 (k5_off15_inb k) (k5_off15_eq k) _ _ rfl]

theorem wsum_for (x0 : Vec F S8x64 .i32) (x1 : Vec F S8x64 .f32) (x5 : Vec F S100000x128 .f32) (hx : ∀ i, (x0 i).toNat < 100000) :
    (iprop(owns (c : Thread nD τ) arg1 fullShare x0 ∗ owns (c : Thread nD τ) arg2 fullShare x1 ∗ owns (c : Thread nD τ) arg5 fullShare x5) : sProp 𝕄)
      ⊢ wp frame (wpE (defs₀ (F := F)) Variants.none c none) E
          (Scf.Loop.for k5_t1_loop k5_t1_ok (k5_pay1 (F := F)) (k5_t1_body i arg1 harg1 arg2 harg2 arg3 harg3 arg4 harg4 arg5 harg5 arg6 (iota .tc S8x128 32 [0] iota_S8x128_d0_w32)))
          (fun acc => iprop(owns (c : Thread nD τ) arg1 fullShare x0 ∗ owns (c : Thread nD τ) arg2 fullShare x1 ∗ owns (c : Thread nD τ) arg5 fullShare x5
            ∗ ⌜acc = out5 x0 x1 x5⌝)) := by
  iintro ⟨H0, H1, H5⟩
  iapply (Scf.wp_for frame (wpE (defs₀ (F := F)) Variants.none c none) E k5_t1_loop.lb k5_t1_loop.ub k5_t1_loop.st k5_t1_ok (k5_pay1 (F := F)) _
    (fun k acc => iprop(owns (c : Thread nD τ) arg1 fullShare x0 ∗ owns (c : Thread nD τ) arg2 fullShare x1 ∗ owns (c : Thread nD τ) arg5 fullShare x5 ∗ ⌜acc = wst x0 x1 x5 k⌝))
    (wsum_trip c E i arg1 harg1 arg2 harg2 arg3 harg3 arg4 harg4 arg5 harg5 arg6 x0 x1 x5 hx))
  isplitl [H0 H1 H5]
  · isplitl [H0]; · iexact H0
    isplitl [H1]; · iexact H1
    isplitl [H5]; · iexact H5
    ipureintro; rfl
  iintro %_ ⟨H0, H1, H5, %h⟩
  isplitl [H0]; · iexact H0
  isplitl [H1]; · iexact H1
  isplitl [H5]; · iexact H5
  ipureintro
  exact h

/-- The body after its transfer, the values in its scratch: the sum stored. -/
def wsumTail : Prog (TpuEff nD τ sig (Elt F) Λ₀ .tc) PUnit := do
  let v6 : FVec F S8x128 .f32 ← Scf.Loop.for k5_t1_loop k5_t1_ok (k5_pay1 (F := F)) (k5_t1_body i arg1 harg1 arg2 harg2 arg3 harg3 arg4 harg4 arg5 harg5 arg6 (iota .tc S8x128 32 [0] iota_S8x128_d0_w32))
  let v7 : Vec F S8x128 .f32 ← Prog.lift (.load arg4 (Rect.unit (s := S8x128) ![0, 0] S8x128.size inb_S8x128_S8x128_0_0).toLoadRect (View.loadsAt_vmem h_S8x128))
  Prog.lift (.store arg4 (Rect.unit (s := S8x128) ![0, 0] S8x128.size inb_S8x128_S8x128_0_0) v6 Finset.univ (View.stores_vmem_bits_univ h_S8x128 rfl) (.inl rfl))
  pure ⟨⟩

theorem sound_wsumTail (x0 : Vec F S8x64 .i32) (x1 : Vec F S8x64 .f32) (x5 : Vec F S100000x128 .f32) (hx : ∀ i, (x0 i).toNat < 100000) :
    (iprop(owns (c : Thread nD τ) arg1 fullShare x0 ∗ owns (c : Thread nD τ) arg2 fullShare x1 ∗ (∃ d, owns (c : Thread nD τ) arg4 fullShare d) ∗ owns (c : Thread nD τ) arg5 fullShare x5) : sProp 𝕄)
      ⊢ wp frame (wpE (defs₀ (F := F)) Variants.none c none) E (wsumTail i arg1 harg1 arg2 harg2 arg3 harg3 arg4 harg4 arg5 harg5 arg6)
          (fun _ => iprop(owns (c : Thread nD τ) arg1 fullShare x0 ∗ owns (c : Thread nD τ) arg2 fullShare x1 ∗ owns (c : Thread nD τ) arg4 fullShare (out5 x0 x1 x5)
            ∗ owns (c : Thread nD τ) arg5 fullShare x5)) := by
  unfold wsumTail
  rw [wp_bind]
  iintro ⟨H0, H1, H4, H5⟩
  iapply (wp_wand_r frame (wpE (defs₀ (F := F)) Variants.none c none) E)
  isplitl [H0 H1 H5]
  · iapply (wsum_for c E i arg1 harg1 arg2 harg2 arg3 harg3 arg4 harg4 arg5 harg5 arg6 x0 x1 x5 hx)
    isplitl [H0]; · iexact H0
    isplitl [H1]; · iexact H1
    iexact H5
  iintro %v ⟨H0, H1, H5, %hv⟩
  unfold owns
  icases H4 with ⟨%d, %f, -, H4⟩
  sl_exec
  sl_step
  isplitl [H0]; · iexact H0
  isplitl [H1]; · iexact H1
  isplitl [H4]
  · iexists _; isplitr
    swap; · iexact H4
    ipureintro
    exact (View.read_writes_full _ _ _ _ _).trans hv
  iexact H5

theorem wsum_copy (W : Waits sig Unit) (hc0 : (Scalar.cmpi .ne (Scalar.extui (Scalar.cmpi .eq (BitVec.ofNat 32 (i 0).val) 0#32)) 0#32) = 1#1)
    (x0 : Vec F S8x64 .i32) (x1 : Vec F S8x64 .f32) (x5 : HbBuf5 (F := F) c hbM5) (hx : ∀ i, (x0 i).toNat < 100000)  (K : PUnit → sProp 𝕄) :
    iprop(owns (c : Thread nD τ) arg1 fullShare x0 ∗ owns (c : Thread nD τ) arg2 fullShare x1 ∗ (∃ d, owns (c : Thread nD τ) arg4 fullShare d) ∗ (∃ d, owns (c : Thread nD τ) arg5 fullShare d)
        ∗ semVal ((c : Thread nD τ), SemLoc.dma 36) 0 ∗ hbPt5 c hbM5 x5 ∗ owes (c : Thread nD τ) 0 W
        ∗ (iprop(owns (c : Thread nD τ) arg1 fullShare x0 ∗ owns (c : Thread nD τ) arg2 fullShare x1 ∗ owns (c : Thread nD τ) arg4 fullShare (out5 x0 x1 x5) ∗ owns (c : Thread nD τ) arg5 fullShare x5
          ∗ semVal ((c : Thread nD τ), SemLoc.dma 36) 0 ∗ hbPt5 c hbM5 x5 ∗ (∃ W', owes (c : Thread nD τ) 0 W')) -∗ K ⟨⟩))
      ⊢ wp frame (wpE (defs₀ (F := F)) Variants.none c none) Set.univ
          (cc5__wsum_kernel i arg1 harg1 arg2 harg2 hbM5 (Memref.isWhole_whole _) arg4 harg4 arg5 harg5 cc5_scratch1) K := by
  rw [cc5__wsum_kernel_eq_skeleton]
  unfold cc5__wsum_kernel_skel
  dsimp only
  rw [dif_pos hc0]
  change _ ⊢ wp _ _ _ (Prog.lift (.enqueueDma hbM5 (.here arg5) (.dma cc5_scratch1.sem) (Memref.isWhole_whole main_arg2).wordExact harg5.wordExact ⟨Or.inl rfl, trivial⟩)
    >>= fun _ => Prog.lift (.waitDma2 cc5_scratch1.sem hbM5 arg5 (Memref.isWhole_whole main_arg2).wordExact harg5.wordExact)
    >>= fun _ => wsumTail i arg1 harg1 arg2 harg2 hbM5 (Memref.isWhole_whole _) arg4 harg4 arg5 harg5 cc5_scratch1) K
  iintro ⟨H0, H1, H4, ⟨%d5, H5⟩, Hq, Hh, HW, Hk⟩
  unfold owns
  icases H5 with ⟨%f5, -, H5⟩
  sl_exec
  have h5 : arg5.view.read (Elt F) (arg5.view.writes (Elt F) arg5.view.junk [⟨Rect.whole S100000x128, wsum_copy.sl.dma0 c x5⟩]) = x5 := by
    exact View.read_writes_full arg5.view arg5.view.junk (off := fun _ => 0) (fun a => (Nat.zero_add _).le) x5 []
  iapply (wp_wand_r frame (wpE (defs₀ (F := F)) Variants.none c none) Set.univ)
  isplitl [H0 H1 H4 H5]
  · iapply (sound_wsumTail c Set.univ i arg1 harg1 arg2 harg2 hbM5 (Memref.isWhole_whole _) arg4 harg4 arg5 harg5 cc5_scratch1 x0 x1 x5 hx)
    unfold owns
    isplitl [H0]; · iexact H0
    isplitl [H1]; · iexact H1
    isplitl [H4]; · iexact H4
    iexists _; isplitr
    swap; · iexact H5
    ipureintro; exact h5
  iintro %_ ⟨H0, H1, H4, H5⟩
  iapply Hk
  isplitl [H0]; · unfold owns; iexact H0
  isplitl [H1]; · unfold owns; iexact H1
  isplitl [H4]; · unfold owns; iexact H4
  isplitl [H5]; · unfold owns; iexact H5
  isplitl [Hq]; · iexact Hq
  isplitl [Hh]; · iexact Hh
  iexists _; iexact HW

theorem wsum_keep (hc0 : ¬ (Scalar.cmpi .ne (Scalar.extui (Scalar.cmpi .eq (BitVec.ofNat 32 (i 0).val) 0#32)) 0#32) = 1#1)
    (x0 : Vec F S8x64 .i32) (x1 : Vec F S8x64 .f32) (x5 : Vec F S100000x128 .f32) (hx : ∀ i, (x0 i).toNat < 100000) :
    (iprop(owns (c : Thread nD τ) arg1 fullShare x0 ∗ owns (c : Thread nD τ) arg2 fullShare x1 ∗ (∃ d, owns (c : Thread nD τ) arg4 fullShare d) ∗ owns (c : Thread nD τ) arg5 fullShare x5) : sProp 𝕄)
      ⊢ wp frame (wpE (defs₀ (F := F)) Variants.none c none) E (cc5__wsum_kernel i arg1 harg1 arg2 harg2 arg3 harg3 arg4 harg4 arg5 harg5 arg6)
          (fun _ => iprop(owns (c : Thread nD τ) arg1 fullShare x0 ∗ owns (c : Thread nD τ) arg2 fullShare x1 ∗ owns (c : Thread nD τ) arg4 fullShare (out5 x0 x1 x5)
            ∗ owns (c : Thread nD τ) arg5 fullShare x5)) := by
  rw [cc5__wsum_kernel_eq_skeleton]
  unfold cc5__wsum_kernel_skel
  dsimp only
  rw [dif_neg hc0]
  exact sound_wsumTail c E i arg1 harg1 arg2 harg2 arg3 harg3 arg4 harg4 arg5 harg5 arg6 x0 x1 x5 hx
end Trip

/-- The transfer is at the first point alone. -/
theorem hcond5 : ∀ t : Fin cfg5.N, ((Scalar.cmpi .ne (Scalar.extui (Scalar.cmpi .eq (BitVec.ofNat 32 (grid5.coords t 0).val) 0#32)) 0#32) = 1#1) ↔ t.val = 0 := by
  intro t
  have ht : t.val < 128 := Nat.lt_of_lt_of_eq t.isLt N_5
  have e0 : (grid5.coords t 0).val = t.val / 1 % 128 := Pipeline.Grid.coords_val t 0 (by decide) rfl
  simp only [e0]
  word_cmp

/-- The scratch that holds the values once they are copied. -/
abbrev sc5 : Memref sig .tc .vmem S100000x128 .f32 := Memref.whole cc5_scratch0
/-- The body's own semaphore. -/
abbrev osem5 : Fin 1 → SemLoc sig := fun j => (![SemLoc.dma 36] : Fin 1 → SemLoc sig) j
theorem ownSemFacts5 : Pipeline.OwnSemFacts spec5 osem5 := by decide
theorem ownSems05_eq (c : Dev nD) :
    (Pipeline.ownSems0 (Ix := Unit) (Name := ℕ) (U := UK) (Lvl := ℕ) (Val := Elt F) (τ := τ) osem5 c : sProp 𝕄)
      = iprop(semVal ((c : Thread nD τ), SemLoc.dma 36) 0) := by
  rw [Pipeline.ownSems0_eq_of_list c osem5 [0] (by decide) (by decide)]; rfl
/-- The array the body copies itself. -/
def H5 : Finset (Ref sig .tc) := {main_arg2}
theorem H5_sub : H5 ⊆ Pipeline.restRefs sig spec5 := by decide

section Regions
variable (V : (c : Dev nD) → (b : Ref sig .tc) → Buf (Elt F) ((c : Thread nD τ).loc b))

theorem hbmPts5_eq (c : Dev nD) :
    (bigSep H5 (fun b => ((c : Thread nD τ).loc b) ↦{fullShare} V c b) : sProp 𝕄) = hbPt5 c hbM5 (V c main_arg2) := by
  rw [BI.bigSep_eq_bigSepL_of_eq [main_arg2] (by decide) (by decide)]; rfl

/-- The scratch before point `n`: at anything before the first, at the values after it. -/
def Scr5 (c : Dev nD) : Nat → sProp 𝕄
  | 0 => iprop(∃ d, owns (c : Thread nD τ) sc5 fullShare d)
  | _ + 1 => owns (c : Thread nD τ) sc5 fullShare (V c main_arg2)

/-- What the points hand on beside the windows. -/
def Phi5 (c : Dev nD) (n : Nat) : sProp 𝕄 :=
  iprop(Scr5 V c n ∗ Pipeline.scopedRestBut (Ix := Unit) (Name := ℕ) (U := UK) (Lvl := ℕ) (Val := Elt F) spec5 c [cc5_scratch0]
    ∗ (∃ r, prngReg c r) ∗ semVal ((c : Thread nD τ), SemLoc.dma 36) 0 ∗ hbPt5 c hbM5 (V c main_arg2))

theorem hin5 (c : Dev nD) :
    iprop(Pipeline.scopedRest (Ix := Unit) (Name := ℕ) (U := UK) (Lvl := ℕ) (Val := Elt F) spec5 c ∗ (∃ r, prngReg c r)
      ∗ Pipeline.ownSems0 (Ix := Unit) (Name := ℕ) (U := UK) (Lvl := ℕ) (Val := Elt F) (τ := τ) osem5 c ∗ bigSep H5 (fun b => ((c : Thread nD τ).loc b) ↦{fullShare} V c b))
      ⊢ (Phi5 V c 0 : sProp 𝕄) := by
  rw [scopedRest5_split, ownSems05_eq, hbmPts5_eq]
  unfold Phi5 Scr5
  simp only [sc5, owns_whole]
  iintro ⟨⟨Hs, Hr⟩, Hg, Hq, Hh⟩
  isplitl [Hs]; · iexact Hs
  isplitl [Hr]; · iexact Hr
  isplitl [Hg]; · iexact Hg
  isplitl [Hq]; · iexact Hq
  iexact Hh

theorem hout5 (c : Dev nD) (n : Nat) :
    (Phi5 V c (n + 1) : sProp 𝕄) ⊢ iprop(Pipeline.scopedRest (Ix := Unit) (Name := ℕ) (U := UK) (Lvl := ℕ) (Val := Elt F) spec5 c ∗ (∃ r, prngReg c r)
      ∗ Pipeline.ownSems0 (Ix := Unit) (Name := ℕ) (U := UK) (Lvl := ℕ) (Val := Elt F) (τ := τ) osem5 c ∗ bigSep H5 (fun b => ((c : Thread nD τ).loc b) ↦{fullShare} V c b)) := by
  rw [scopedRest5_split, ownSems05_eq, hbmPts5_eq]
  unfold Phi5 Scr5
  simp only [sc5, owns_whole]
  iintro ⟨Hs, Hr, Hg, Hq, Hh⟩
  isplitl [Hs Hr]
  · isplitl [Hs]; · iexists _; iexact Hs
    iexact Hr
  isplitl [Hg]; · iexact Hg
  isplitl [Hq]; · iexact Hq
  iexact Hh

def dat5 (c : Dev nD) : Dat τ (Elt F) Unit ℕ UK ℕ cfg5 c where
  A w := V c (Pipeline.arrRef spec5 w)
  after w t := match w with
    | ⟨0, _⟩ => blkIn V cfg5 c 0 t
    | ⟨1, _⟩ => blkIn V cfg5 c 1 t
    | ⟨2, _⟩ => out5 (blkIn V cfg5 c 0 t) (blkIn V cfg5 c 1 t) (V c main_arg2)
  Φ t := Phi5 V c t.val
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = blkIn V cfg5 c 0 t := by dsimp only [dat5]
theorem after5_1 (c : Dev nD) (t : Fin cfg5.N) : (dat5 V c).after 1 t = blkIn V cfg5 c 1 t := by dsimp only [dat5]
theorem after5_2 (c : Dev nD) (t : Fin cfg5.N) : (dat5 V c).after 2 t = out5 (blkIn V cfg5 c 0 t) (blkIn V cfg5 c 1 t) (V c main_arg2) := by dsimp only [dat5]

theorem before5_0 (c : Dev nD) (t : Fin cfg5.N) (d) : (dat5 V c).before 0 t d = blkIn V cfg5 c 0 t :=
  ((dat5 V c).before_in_eq_fetched 0 rfl (fun _ => rfl) (fun _ _ _ => rfl) (fun t => by rw [after5_0]; unfold Dat.blockOf blkIn; rw [A_eq5]; try rfl) t d).trans
    (by unfold Dat.fetched Dat.blockOf blkIn; rw [A_eq5]; try rfl)
theorem before5_1 (c : Dev nD) (t : Fin cfg5.N) (d) : (dat5 V c).before 1 t d = blkIn V cfg5 c 1 t :=
  ((dat5 V c).before_in_eq_fetched 1 rfl (fun _ => rfl) (fun _ _ _ => rfl) (fun t => by rw [after5_1]; unfold Dat.blockOf blkIn; rw [A_eq5]; try rfl) t d).trans
    (by unfold Dat.fetched Dat.blockOf blkIn; rw [A_eq5]; try rfl)

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (hx : ∀ (t : Fin cfg5.N) (i : S8x64.Idx), ((blkIn V cfg5 c 0 t : S8x64.Idx → BitVec 32) i).toNat < 100000) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.castSucc = Phi5 V c t.val from rfl, show (dat5 V c).Φ t.succ = Phi5 V c (t.val + 1) from rfl, after5_0, after5_1, after5_2]
  unfold Dat.owesAt Pipeline.owesWithin
  rw [show (dat5 V c).owed t.castSucc = 0 from rfl, show (dat5 V c).owed t.succ = 0 from rfl]
  by_cases hz : t.val = 0
  · rw [hz]
    unfold Phi5 Scr5
    iintro ⟨⟨HS, Hrest, Hg, Hq, Hh⟩, ⟨%W, -, HW⟩, ⟨%d0, H0⟩, ⟨%d1, H1⟩, ⟨%d2, H2⟩⟩
    iapply (wsum_copy c (grid5.coords t) _ _ _ _ _ _ _ _ W ((hcond5 t).mpr hz) (blkIn V cfg5 c 0 t) (blkIn V cfg5 c 1 t) (V c main_arg2) (hx t) _)
    isplitl [H0]; · iexact H0
    isplitl [H1]; · iexact H1
    isplitl [H2]; · iexists _; iexact H2
    isplitl [HS]; · iexact HS
    isplitl [Hq]; · iexact Hq
    isplitl [Hh]; · iexact Hh
    isplitl [HW]; · iexact HW
    iintro ⟨H0, H1, H2, HS, Hq, Hh, ⟨%W', HW⟩⟩
    isplitl [HS Hrest Hg Hq Hh]
    · isplitl [HS]; · iexact HS
      isplitl [Hrest]; · iexact Hrest
      isplitl [Hg]; · iexact Hg
      isplitl [Hq]; · iexact Hq
      iexact Hh
    isplitl [HW]
    · iexists W'; isplitr; · ipureintro; exact fun _ _ => Or.inl trivial
      iexact HW
    isplitl [H0]; · iexact H0
    isplitl [H1]; · iexact H1
    iexact H2
  · obtain ⟨n, hn⟩ := Nat.exists_eq_succ_of_ne_zero hz
    rw [hn]
    unfold Phi5 Scr5
    iintro ⟨⟨HS, Hrest, Hg, Hq, Hh⟩, ⟨%W, -, HW⟩, ⟨%d0, H0⟩, ⟨%d1, H1⟩, ⟨%d2, H2⟩⟩
    iapply (wp_wand_r frame (wpE (defs₀ (F := F)) Variants.none c none) Set.univ)
    isplitl [H0 H1 H2 HS]
    · iapply (wsum_keep c Set.univ (grid5.coords t) _ _ _ _ _ _ _ _ _ _ _ (fun h => hz ((hcond5 t).mp h)) (blkIn V cfg5 c 0 t) (blkIn V cfg5 c 1 t) (V c main_arg2) (hx t))
      isplitl [H0]; · iexact H0
      isplitl [H1]; · iexact H1
      isplitl [H2]; · iexists _; iexact H2
      iexact HS
    iintro %_ ⟨H0, H1, H2, HS⟩
    isplitl [HS Hrest Hg Hq Hh]
    · isplitl [HS]; · iexact HS
      isplitl [Hrest]; · iexact Hrest
      isplitl [Hg]; · iexact Hg
      isplitl [Hq]; · iexact Hq
      iexact Hh
    isplitl [HW]
    · iexists W; isplitr; · ipureintro; exact fun _ _ => Or.inl trivial
      iexact HW
    isplitl [H0]; · iexact H0
    isplitl [H1]; · iexact H1
    iexact H2

theorem defs₀_row5 (t : Fin cfg5.N) :
    defs₀ (F := F) .tc cfg5.body (cfg5.bodyArgs t (cfg5.slots t)) = bodyAt5 t := by
  unfold defs₀; rw [Defs.onTc_tc]

theorem body_obligation5 (c : Dev nD) (hx : ∀ (t : Fin cfg5.N) (i : S8x64.Idx), ((blkIn V cfg5 c 0 t : S8x64.Idx → BitVec 32) i).toNat < 100000) : BodyObligation (dat5 (F := F) V c) (defs₀ (F := F)) Variants.none () Set.univ := fun t => by
  rw [bigSep_W5, bigSep_W5, defs₀_row5]
  exact triple_restated (sound_body5 V c hx t) rfl .rfl fun _ => .rfl

end Regions

end Cert.KernelIdeal.Gen
-- ==== Proof.Run.lean ====
/- The whole kernel's run: the buffers' contents after each of its items, the six calls as segments over those contents, and
   the launch. Its end: every unscoped buffer holds the last of those contents, and every counter is zero. -/
module

public import proofs.«01_k».proof.Proof.Gather
public import proofs.«01_k».proof.Proof.Wsum
public import proofs.«01_k».proof.Proof.Gen.KernelIdeal.Regions
public import Idealize.ShloMosaic.Lib.Pipeline.RegionArraysD

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UK ℕ

/-! ## One call as a segment -/

abbrev 𝒱₀ : Variants := Variants.none
/-- Every cell of a TensorCore stands at the one level. -/
def L : GSem nD τ sig → Finset Unit := fun g => if g.1.2 = .tc then Finset.univ else ∅
def lv : GSem nD τ sig → Unit → ℕ := fun _ _ => 0

/-- The references of a valuation, by core. -/
abbrev rd (W : Dev nD → Valuation τ sig (Elt F)) : (c : Dev nD) → (b : Ref sig .tc) → Buf (Elt F) ((c : Thread nD τ).loc b) := fun c b => W c b

/-- What rides beside the buffers: the generator's register at some state, and nothing owed. -/
abbrev Rd (c : Dev nD) : sProp 𝕄 := iprop((∃ r, prngReg c r) ∗ ∃ W, owes (c : Thread nD τ) (0 : CellTallies nD τ sig Unit) W)
/-- The state between two items. -/
abbrev St (W : Dev nD → Valuation τ sig (Elt F)) (c : Dev nD) : sProp 𝕄 :=
  iprop(StableHlo.held (c : Thread nD τ) (Pipeline.ucRefs τ sig) (W c) ∗ Rd c)

section One
variable (pd : (p : Fin 6) → (c : Dev nD) → Dat τ (Elt F) Unit ℕ UK ℕ (Pipeline.pin (pcfgs (F := F)) adm p) c) (p : Fin 6)

/-- The contents a call leaves, from those it finds: its arrays as its pipeline leaves them, the rest as found. -/
abbrev leave (W : Dev nD → Valuation τ sig (Elt F)) (c : Dev nD) : Valuation τ sig (Elt F) :=
  Pipeline.withArrays (Pipeline.pin (pcfgs (F := F)) adm p).spec c (W c) fun w => (pd p c).arrAt w (Pipeline.pin (pcfgs (F := F)) adm p).N

theorem cut : Pipeline.LevelCut (pcfgs (F := F)) adm () L lv p (fun _ => (0 : CellTallies nD τ sig Unit)) (fun _ => 0) where
  hι c w s := by unfold L; rw [if_pos rfl]; exact Finset.mem_univ _
  hιb c w s := le_rfl
  hD c g i h := absurd h (lt_irrefl _)

theorem leave_arr (hinj : Function.Injective (Pipeline.arrRef (pcfgs (F := F) p).spec)) (W : Dev nD → Valuation τ sig (Elt F)) (c : Dev nD)
    (w : Fin (Pipeline.pin (pcfgs (F := F)) adm p).W) :
    (pd p c).arrAt w (Pipeline.pin (pcfgs (F := F)) adm p).N
      = leave pd p W c (Proc.devRef .tc (Pipeline.arrRef (Pipeline.pin (pcfgs (F := F)) adm p).spec w)) :=
  (Pipeline.withArrays_arr (Pipeline.pin (pcfgs (F := F)) adm p).spec hinj c (W c) (fun w => (pd p c).arrAt w (Pipeline.pin (pcfgs (F := F)) adm p).N) w).symm

theorem leave_rest (W : Dev nD → Valuation τ sig (Elt F)) (c : Dev nD) :
    (StableHlo.held (c : Thread nD τ) (Pipeline.ucRefs τ sig \ Pipeline.arrRefs (pcfgs (F := F) p).spec) (leave pd p W c) : sProp 𝕄)
      = StableHlo.held (c : Thread nD τ) (Pipeline.ucRefs τ sig \ Pipeline.arrRefs (pcfgs (F := F) p).spec) (W c) :=
  StableHlo.held_congr (c : Thread nD τ) fun b hb => by
    obtain ⟨hu, hn⟩ := Finset.mem_sdiff.mp hb
    obtain ⟨r, -, rfl⟩ := Finset.mem_map.mp (Finset.mem_filter.mp hu).1
    exact Pipeline.withArrays_of_ne _ c _ _ r fun w e => hn (Finset.mem_map.mpr ⟨r, Finset.mem_image.mpr ⟨w, Finset.mem_univ _, e⟩, rfl⟩)

/-- A call as a segment from any contents `W` that have its arrays as its proof data start them. -/
def regOf {K : Type} [Fintype K] (osem : K → SemLoc sig) (ho : Pipeline.OwnSemFacts (pcfgs (F := F) p).spec osem)
    (H : Finset (Ref sig .tc)) (hHS : Pipeline.hbmRefs (τ := τ) H ⊆ Pipeline.ucRefs τ sig \ Pipeline.arrRefs (pcfgs (F := F) p).spec)
    (kit : Pipeline.PLaunchFacts (nD := nD) (τ := τ) (pcfgs (F := F)) p) (hK : (pcfgs (F := F) p).pre.K = 0)
    (hsc : ∀ w, (Pipeline.arrRef (pcfgs (F := F) p).spec w).isScoped = false)
    (hbody : ∀ c, Pipeline.BodyObligationLoose (pd p c) defs₀ 𝒱₀ () Set.univ)
    (howed : ∀ c t, (pd p c).owed t = 0) (hrec : ∀ c, (pd p c).recorded 0 = Set.univ)
    (hshare : ∀ c w, (pd p c).share w = fullShare)
    (W : Dev nD → Valuation τ sig (Elt F))
    (hin : ∀ c : Dev nD, iprop(Pipeline.scopedRest (Pipeline.pin (pcfgs (F := F)) adm p).spec c ∗ (∃ r, prngReg c r) ∗ Pipeline.ownSems0 osem c
        ∗ (bigSep H fun b => ((c.tc : Thread nD τ).loc b) ↦{fullShare} W c (Proc.devRef .tc b))) ⊢ (pd p c).Φ 0)
    (hout : ∀ c : Dev nD, (pd p c).Φ (Fin.last (Pipeline.pin (pcfgs (F := F)) adm p).N)
      ⊢ iprop(Pipeline.scopedRest (Pipeline.pin (pcfgs (F := F)) adm p).spec c ∗ (∃ r, prngReg c r) ∗ Pipeline.ownSems0 osem c
        ∗ (bigSep H fun b => ((c.tc : Thread nD τ).loc b) ↦{fullShare} W c (Proc.devRef .tc b))))
    (hW : ∀ c w, (pd p c).arrAt w 0 = W c (Proc.devRef .tc (Pipeline.arrRef (Pipeline.pin (pcfgs (F := F)) adm p).spec w))) :
    Pipeline.RegionSeg (pcfgs (F := F)) adm pd () defs₀ 𝒱₀ L lv p :=
  (Pipeline.RegionSeg.ofHeldDH (pcfgs (F := F)) adm pd () defs₀ 𝒱₀ L lv p (fun _ => 0) () osem ho H
    (Pipeline.ucRefs τ sig \ Pipeline.arrRefs (pcfgs (F := F) p).spec) hHS kit hK hbody howed hrec hshare
    (fun c => by iintro -; iapply (Transfers.MayWaits.zero (c : Thread nD τ) ()); iempintro)
    W (leave pd p W)
    (fun c => BI.BIBase.Entails.trans (by
      iintro ⟨Hr, Hp, Hos, HH, -⟩
      isplitl [Hr]; · iexact Hr
      isplitl [Hp]; · iexact Hp
      isplitl [Hos]; · iexact Hos
      iexact HH) (hin c))
    hout (fun _ => 0) (cut p) (fun _ => iprop(emp)) hW
    (leave_arr pd p kit.win.arr_inj W)).conseq (St W) (St (leave pd p W))
    (fun c => by
      show _ ⊢ iprop(StableHlo.held (c : Thread nD τ) (Pipeline.arrRefs (pcfgs (F := F) p).spec) (W c) ∗ (∃ r, prngReg c r)
        ∗ (StableHlo.held (c : Thread nD τ) (Pipeline.ucRefs τ sig \ Pipeline.arrRefs (pcfgs (F := F) p).spec) (W c) ∗ emp) ∗ ∃ Wd, owes (c : Thread nD τ) (0 : CellTallies nD τ sig Unit) Wd)
      unfold St Rd
      rw [StableHlo.held_sub_split (c : Thread nD τ) (Pipeline.arrRefs_sub_ucRefs (τ := τ) (pcfgs (F := F) p).spec hsc) (W c)]
      iintro ⟨⟨Ha, Hr⟩, Hp, HO⟩
      isplitl [Ha]; · iexact Ha
      isplitl [Hp]; · iexact Hp
      isplitl [Hr]
      · isplitl [Hr]; · iexact Hr
        iempintro
      iexact HO)
    (fun c => by
      show iprop(StableHlo.held (c : Thread nD τ) (Pipeline.arrRefs (pcfgs (F := F) p).spec) (leave pd p W c) ∗ (∃ r, prngReg c r)
        ∗ (StableHlo.held (c : Thread nD τ) (Pipeline.ucRefs τ sig \ Pipeline.arrRefs (pcfgs (F := F) p).spec) (W c) ∗ emp) ∗ ∃ Wd, owes (c : Thread nD τ) (0 : CellTallies nD τ sig Unit) Wd) ⊢ _
      unfold St Rd
      rw [StableHlo.held_sub_split (c : Thread nD τ) (Pipeline.arrRefs_sub_ucRefs (τ := τ) (pcfgs (F := F) p).spec hsc) (leave pd p W c),
        leave_rest pd p W c]
      iintro ⟨Ha, Hp, ⟨Hr, -⟩, HO⟩
      isplitl [Ha Hr]; · isplitl [Ha] <;> iassumption
      isplitl [Hp]; · iexact Hp
      iexact HO)
end One

/-! ## The contents after each item -/

section Whole
variable (m : (ℓ : Loc nD τ sig) → Buf (Elt F) ℓ)

abbrev U0 (c : Dev nD) : Valuation τ sig (Elt F) := fun b => m (c, b)
abbrev U1 (c : Dev nD) : Valuation τ sig (Elt F) := StableHlo.after hostOps0 (U0 m c)
def U2 (c : Dev nD) : Valuation τ sig (Elt F) := Pipeline.withArrays spec0 c (U1 m c) fun w => (dat0 (rd (U1 m)) c).arrAt w cfg0.N
abbrev U3 (c : Dev nD) : Valuation τ sig (Elt F) := StableHlo.after hostOps1 (U2 m c)
def U4 (c : Dev nD) : Valuation τ sig (Elt F) := Pipeline.withArrays spec1 c (U3 m c) fun w => (dat1 (rd (U3 m)) c).arrAt w cfg1.N
def U5 (c : Dev nD) : Valuation τ sig (Elt F) := Pipeline.withArrays spec2 c (U4 m c) fun w => (dat2 (rd (U4 m)) c).arrAt w cfg2.N
def U6 (c : Dev nD) : Valuation τ sig (Elt F) := Pipeline.withArrays spec3 c (U5 m c) fun w => (dat3 (rd (U5 m)) c).arrAt w cfg3.N
def U7 (c : Dev nD) : Valuation τ sig (Elt F) := Pipeline.withArrays spec4 c (U6 m c) fun w => (dat4 (rd (U6 m)) c).arrAt w cfg4.N
def U8 (c : Dev nD) : Valuation τ sig (Elt F) := Pipeline.withArrays spec5 c (U7 m c) fun w => (dat5 (rd (U7 m)) c).arrAt w cfg5.N

/-- Every call's proof data, at the contents it is entered from. -/
def pdats : (p : Fin 6) → (c : Dev nD) → Dat τ (Elt F) Unit ℕ UK ℕ (Pipeline.pin (pcfgs (F := F)) adm p) c
  | ⟨0, _⟩ => fun c => dat0 (rd (U1 m)) c
  | ⟨1, _⟩ => fun c => dat1 (rd (U3 m)) c
  | ⟨2, _⟩ => fun c => dat2 (rd (U4 m)) c
  | ⟨3, _⟩ => fun c => dat3 (rd (U5 m)) c
  | ⟨4, _⟩ => fun c => dat4 (rd (U6 m)) c
  | ⟨5, _⟩ => fun c => dat5 (rd (U7 m)) c

/-- The words by which the gather picks its groups number a group. -/
abbrev Words3 : Prop := ∀ (c : Dev nD) (t : Fin cfg3.N) (i : S8x64.Idx), ((blkIn (rd (U5 m)) cfg3 c 0 t : S8x64.Idx → BitVec 32) i).toNat < 896
/-- The words by which the weighted sum picks its rows number a row of the values. -/
abbrev Words5 : Prop := ∀ (c : Dev nD) (t : Fin cfg5.N) (i : S8x64.Idx), ((blkIn (rd (U7 m)) cfg5 c 0 t : S8x64.Idx → BitVec 32) i).toNat < 100000

def reg0 : Pipeline.RegionSeg (pcfgs (F := F)) adm (pdats m) () defs₀ 𝒱₀ L lv 0 :=
  regOf (pdats m) 0 (fun k : PEmpty => k.elim) (Pipeline.OwnSemFacts.none _) ∅ (Finset.empty_subset _) launch0.toP rfl (show ∀ w, (Pipeline.arrRef spec0 w).isScoped = false by decide)
    (fun c => (body_obligation0 (rd (U1 m)) c).loose) (fun _ _ => rfl) (fun _ => rfl) (fun c => (pdats m 0 c).share_full fun _ => rfl) (U1 m)
    (fun c => by
      rw [show (pdats m 0 c).Φ 0 = Pipeline.ΦA spec0 c from rfl]; unfold Pipeline.ΦA
      iintro ⟨Hr, Hp, -, -⟩
      isplitl [Hr]; · iexact Hr
      iexact Hp)
    (fun c => by
      rw [Pipeline.ownSems0_none, BI.bigSep_empty, show (pdats m 0 c).Φ (Fin.last _) = Pipeline.ΦA spec0 c from rfl]; unfold Pipeline.ΦA
      iintro ⟨Hr, Hp⟩
      isplitl [Hr]; · iexact Hr
      isplitl [Hp]; · iexact Hp
      isplitr <;> iempintro)
    (fun c w => rfl)

def reg1 : Pipeline.RegionSeg (pcfgs (F := F)) adm (pdats m) () defs₀ 𝒱₀ L lv 1 :=
  regOf (pdats m) 1 (fun k : PEmpty => k.elim) (Pipeline.OwnSemFacts.none _) ∅ (Finset.empty_subset _) launch1.toP rfl (show ∀ w, (Pipeline.arrRef spec1 w).isScoped = false by decide)
    (fun c => (body_obligation1 (rd (U3 m)) c).loose) (fun _ _ => rfl) (fun _ => rfl) (fun c => (pdats m 1 c).share_full fun _ => rfl) (U3 m)
    (fun c => by
      rw [show (pdats m 1 c).Φ 0 = Pipeline.ΦA spec1 c from rfl]; unfold Pipeline.ΦA
      iintro ⟨Hr, Hp, -, -⟩
      isplitl [Hr]; · iexact Hr
      iexact Hp)
    (fun c => by
      rw [Pipeline.ownSems0_none, BI.bigSep_empty, show (pdats m 1 c).Φ (Fin.last _) = Pipeline.ΦA spec1 c from rfl]; unfold Pipeline.ΦA
      iintro ⟨Hr, Hp⟩
      isplitl [Hr]; · iexact Hr
      isplitl [Hp]; · iexact Hp
      isplitr <;> iempintro)
    (fun c w => rfl)

def reg2 : Pipeline.RegionSeg (pcfgs (F := F)) adm (pdats m) () defs₀ 𝒱₀ L lv 2 :=
  regOf (pdats m) 2 (fun k : PEmpty => k.elim) (Pipeline.OwnSemFacts.none _) ∅ (Finset.empty_subset _) launch2.toP rfl (show ∀ w, (Pipeline.arrRef spec2 w).isScoped = false by decide)
    (fun c => (body_obligation2 (rd (U4 m)) c).loose) (fun _ _ => rfl) (fun _ => rfl) (fun c => (pdats m 2 c).share_full fun _ => rfl) (U4 m)
    (fun c => by
      rw [show (pdats m 2 c).Φ 0 = Pipeline.ΦA spec2 c from rfl]; unfold Pipeline.ΦA
      iintro ⟨Hr, Hp, -, -⟩
      isplitl [Hr]; · iexact Hr
      iexact Hp)
    (fun c => by
      rw [Pipeline.ownSems0_none, BI.bigSep_empty, show (pdats m 2 c).Φ (Fin.last _) = Pipeline.ΦA spec2 c from rfl]; unfold Pipeline.ΦA
      iintro ⟨Hr, Hp⟩
      isplitl [Hr]; · iexact Hr
      isplitl [Hp]; · iexact Hp
      isplitr <;> iempintro)
    (fun c w => rfl)

def reg3 (hx : Words3 m) : Pipeline.RegionSeg (pcfgs (F := F)) adm (pdats m) () defs₀ 𝒱₀ L lv 3 :=
  regOf (pdats m) 3 (fun k : PEmpty => k.elim) (Pipeline.OwnSemFacts.none _) ∅ (Finset.empty_subset _) launch3.toP rfl (show ∀ w, (Pipeline.arrRef spec3 w).isScoped = false by decide)
    (fun c => (body_obligation3 (rd (U5 m)) c (hx c)).loose) (fun _ _ => rfl) (fun _ => rfl) (fun c => (pdats m 3 c).share_full fun _ => rfl) (U5 m)
    (fun c => by
      rw [show (pdats m 3 c).Φ 0 = Pipeline.ΦA spec3 c from rfl]; unfold Pipeline.ΦA
      iintro ⟨Hr, Hp, -, -⟩
      isplitl [Hr]; · iexact Hr
      iexact Hp)
    (fun c => by
      rw [Pipeline.ownSems0_none, BI.bigSep_empty, show (pdats m 3 c).Φ (Fin.last _) = Pipeline.ΦA spec3 c from rfl]; unfold Pipeline.ΦA
      iintro ⟨Hr, Hp⟩
      isplitl [Hr]; · iexact Hr
      isplitl [Hp]; · iexact Hp
      isplitr <;> iempintro)
    (fun c w => rfl)

def reg4 : Pipeline.RegionSeg (pcfgs (F := F)) adm (pdats m) () defs₀ 𝒱₀ L lv 4 :=
  regOf (pdats m) 4 (fun k : PEmpty => k.elim) (Pipeline.OwnSemFacts.none _) ∅ (Finset.empty_subset _) launch4.toP rfl (show ∀ w, (Pipeline.arrRef spec4 w).isScoped = false by decide)
    (fun c => (body_obligation4 (rd (U6 m)) c).loose) (fun _ _ => rfl) (fun _ => rfl) (fun c => (pdats m 4 c).share_full fun _ => rfl) (U6 m)
    (fun c => by
      rw [show (pdats m 4 c).Φ 0 = Pipeline.ΦA spec4 c from rfl]; unfold Pipeline.ΦA
      iintro ⟨Hr, Hp, -, -⟩
      isplitl [Hr]; · iexact Hr
      iexact Hp)
    (fun c => by
      rw [Pipeline.ownSems0_none, BI.bigSep_empty, show (pdats m 4 c).Φ (Fin.last _) = Pipeline.ΦA spec4 c from rfl]; unfold Pipeline.ΦA
      iintro ⟨Hr, Hp⟩
      isplitl [Hr]; · iexact Hr
      isplitl [Hp]; · iexact Hp
      isplitr <;> iempintro)
    (fun c w => rfl)

def reg5 (hx : Words5 m) : Pipeline.RegionSeg (pcfgs (F := F)) adm (pdats m) () defs₀ 𝒱₀ L lv 5 :=
  regOf (pdats m) 5 osem5 ownSemFacts5 H5 (show Pipeline.hbmRefs (τ := τ) H5 ⊆ Pipeline.ucRefs τ sig \ Pipeline.arrRefs spec5 by decide) launch5.toP rfl (show ∀ w, (Pipeline.arrRef spec5 w).isScoped = false by decide)
    (fun c => (body_obligation5 (rd (U7 m)) c (hx c)).loose) (fun _ _ => rfl) (fun _ => rfl) (fun c => (pdats m 5 c).share_full fun _ => rfl) (U7 m)
    (hin5 (rd (U7 m))) (fun c => hout5 (rd (U7 m)) c 127) (fun c w => rfl)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UK) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

abbrev segsAll (h3 : Words3 m) (h5 : Words5 m) : List (Pipeline.Seg (pcfgs (F := F)) adm (pdats m) () defs₀ 𝒱₀ L lv) :=
  [ .host (hseg hostOps0 hostOps0_sub hostOps0_fresh (U0 m)),
    .region (reg0 m),
    .host (hseg hostOps1 hostOps1_sub hostOps1_fresh (U2 m)),
    .region (reg1 m),
    .region (reg2 m),
    .region (reg3 m h3),
    .region (reg4 m),
    .region (reg5 m h5) ]

theorem main_run (h3 : Words3 m) (h5 : Words5 m) (c : Dev nD) : main (F := F) c = Pipeline.Seg.run (segsAll m h3 h5) :=
  (main_chain c).trans (by chain_rfl)

-- the run's implicit arguments are found by unifying its conclusion with this one, which takes unfolding plain definitions
set_option backward.isDefEq.respectTransparency.types false in
/-- From any memory whose words name groups and rows, every execution ends, every unscoped buffer at the last contents and
    every counter at zero. -/
theorem run_all (ρ : Dev nD → PrngReg) (h3 : Words3 m) (h5 : Words5 m) :
    θ_run defs (onTc (τ := τ) (main (F := F))) ⟨m, fun _ => 0, ρ⟩ (fun r =>
      (∀ c : Dev nD, ∀ b ∈ Pipeline.ucRefs τ sig, r.2.mem (((c : Thread nD τ)).1, b) = U8 m c b) ∧ r.2.sem = fun _ => 0) :=
  Pipeline.θ_run_regions_kit_sems (pcfgs (F := F)) adm (pdats m) () cellOf_inj embL defs₀ 𝒱₀ L lv m ρ main (segsAll m h3 h5)
    (fun c Q => by rw [main_run m h3 h5 c])
    (by simp only [segsAll, Pipeline.Seg.pipes_host, Pipeline.Seg.pipes_region, Pipeline.Seg.pipes_nil]; decide)
    (O₀ := 0) (hL := fun g hg => if_neg hg) (G := fun _ => iprop(emp))
    (u₀ := (initOf (Pipeline.cells cfgs cellOf_inj) (Pipeline.launchToks cfgs cellOf_inj), 1))
    (hu₀ := by
      iintro Hu
      ihave H' := (ownU_pair _ _) $$ Hu
      icases H' with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := St (U0 m)) (Tₙ := fun c => iprop(StableHlo.held (c : Thread nD τ) (Pipeline.ucRefs τ sig) (U8 m c) ∗ ∃ r, prngReg c r))
    (hch := ⟨fun _ => .rfl, fun _ => .rfl, fun _ => .rfl, fun _ => .rfl, fun _ => .rfl, fun _ => .rfl, fun _ => .rfl, fun _ => .rfl, fun c => by
      show St (U8 m) c ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U8 m c b)
    (hfin := fun c s' => by
      iintro ⟨⟨Hh, -⟩, HSI⟩
      unfold StableHlo.held
      imodintro
      iapply (pointsTo_read_all (Pipeline.ucRefs τ sig) (fun b => (((c : Thread nD τ)).1, b)) (U8 m c) s')
      isplitl [Hh] <;> iassumption)
    (hQ := fun s h hz => ⟨h, funext fun g => hz g (.inr (regions_no_unscoped g.2))⟩)

end Whole

end Cert.KernelIdeal.Gen
end
-- ==== Proof.Arrays.lean ====
/- What each of the six calls leaves in its output arrays, index by index, as plain functions of the arrays it reads. -/
module

public import proofs.«01_k».proof.Proof.Run
public import Idealize.ShloMosaic.Lib.Pipeline.Value
public import Idealize.ShloMosaic.Lib.Pointwise

@[expose] public section

set_option maxRecDepth 16384

noncomputable section

namespace Cert.KernelIdeal.Gen

open Idealize.ShloMosaic Idealize.ShloMosaic.TcCoe
open Idealize.SL.Sem
open Idealize.ShloMosaic.Pipeline (Dat Cfg Window)

variable {F : FTy → Type} [FloatOps F]

/-- An output window whose index map is one to one: block `t` of the array at the end is what point `t` left. -/
theorem read_final {cfg : Pipeline.Cfg sig Λ₀} {c : Dev nD} (dat : Dat τ (Elt F) Unit ℕ UK ℕ cfg c) (w : Fin cfg.W)
    (hk : (cfg.win w).kind = .blocked) (hinj : ∀ t t' : Fin cfg.N, (cfg.win w).index t = (cfg.win w).index t' → t = t') (t : Fin cfg.N)
    (hf : (cfg.win w).flush t = true) :
    ((cfg.win w).blk t).view.read (Elt F) (dat.arrAt w cfg.N) = dat.flushed w t :=
  dat.read_blk_arrAt_eq_flushed w (fun t t' _ _ hne => (cfg.win w).disjoint_blk (fun h => hne (hinj t t' h)) hk) cfg.N t t.isLt hf

section Regions
variable (V : (c : Dev nD) → (b : Ref sig .tc) → Buf (Elt F) ((c : Thread nD τ).loc b)) (c : Dev nD)

/-! ## The scores -/

theorem idx0 : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val ∧ win0_2.flush t = true :=
  (by decide +kernel : ∀ t : Fin grid0.N, _)

theorem lt0 (t : Fin cfg0.N) : t.val < 56 := t.isLt

theorem in0_0 (t : Fin cfg0.N) : (blkIn V cfg0 c 0 t : S1024x128.Idx → Elt F .f32) = (V c main_arg0 : S1024x128.Idx → Elt F .f32) := by
  funext y
  obtain ⟨e0, e1, -⟩ := idx0 t
  show (V c main_arg0 : S1024x128.Idx → Elt F .f32) (((cfg0.win 0).blk t).view.emb y) = _
  congr 1
  funext a; apply Fin.ext
  match a with
  | ⟨0, _⟩ => show win0_0.index t (0 : Fin 2) * 1024 + 1 * (y 0).val = (y 0).val; omega
  | ⟨1, _⟩ => show win0_0.index t (1 : Fin 2) * 128 + 1 * (y 1).val = (y 1).val; omega

theorem in0_1 (t : Fin cfg0.N) (b : Fin 2048) (d : Fin 128) :
    (blkIn V cfg0 c 1 t : S2048x128.Idx → Elt F .f32) (ix2 b d)
      = (V c main_v1 : S114688x128.Idx → Elt F .f32) (ix2 ⟨2048 * t.val + b.val, by have := lt0 t; omega⟩ d) := by
  obtain ⟨-, -, e0, e1, -⟩ := idx0 t
  show (V c main_v1 : S114688x128.Idx → Elt F .f32) (((cfg0.win 1).blk t).view.emb (ix2 b d)) = _
  congr 1
  funext a; apply Fin.ext
  match a with
  | ⟨0, _⟩ => show win0_1.index t (0 : Fin 2) * 2048 + 1 * b.val = 2048 * t.val + b.val; omega
  | ⟨1, _⟩ => show win0_1.index t (1 : Fin 2) * 128 + 1 * d.val = d.val; omega

theorem fin0 (t : Fin cfg0.N) (r : Fin 1024) (b : Fin 2048) :
    ((dat0 V c).arrAt 2 cfg0.N : S1024x114688.Idx → Elt F .f32) (ix2 r ⟨2048 * t.val + b.val, by have := lt0 t; omega⟩)
      = out0 (grid0.coords t) (blkIn V cfg0 c 0 t) (blkIn V cfg0 c 1 t) (ix2 r b) := by
  obtain ⟨-, -, -, -, e0, e1, hf⟩ := idx0 t
  have h := congrFun (read_final (dat0 V c) 2 rfl (fun t t' h => Fin.ext
    ((idx0 t).2.2.2.2.2.1.symm.trans ((congrFun h (1 : Fin 2)).trans (idx0 t').2.2.2.2.2.1))) t hf) (ix2 r b)
  refine (Eq.trans ?_ h).trans ?_
  · show _ = ((dat0 V c).arrAt 2 cfg0.N : S1024x114688.Idx → Elt F .f32) (((cfg0.win 2).blk t).view.emb (ix2 r b))
    congr 1
    funext a; apply Fin.ext
    match a with
    | ⟨0, _⟩ => show r.val = win0_2.index t (0 : Fin 2) * 1024 + 1 * r.val; omega
    | ⟨1, _⟩ => show 2048 * t.val + b.val = win0_2.index t (1 : Fin 2) * 2048 + 1 * b.val; omega
  · show (dat0 V c).after 2 t (ix2 r b) = _
    rw [after0_2]

/-! ## The group maxima -/

theorem idx1 : ∀ t : Fin cfg1.N, win1_0.index t (0 : Fin 3) = t.val ∧ win1_0.index t (1 : Fin 3) = 0 ∧ win1_0.index t (2 : Fin 3) = 0
    ∧ win1_1.index t (0 : Fin 2) = t.val ∧ win1_1.index t (1 : Fin 2) = 0
    ∧ win1_2.index t (0 : Fin 2) = t.val ∧ win1_2.index t (1 : Fin 2) = 0
    ∧ win1_1.flush t = true ∧ win1_2.flush t = true :=
  (by decide +kernel : ∀ t : Fin grid1.N, _)

theorem lt1 (t : Fin cfg1.N) : t.val < 64 := t.isLt

theorem in1_0 (t : Fin cfg1.N) (r : Fin 16) (g : Fin 896) (l : Fin 128) :
    (blkIn V cfg1 c 0 t : S16x896x128.Idx → Elt F .f32) (ix3 r g l)
      = (V c main_v3 : S1024x896x128.Idx → Elt F .f32) (ix3 ⟨16 * t.val + r.val, by have := lt1 t; omega⟩ g l) := by
  obtain ⟨e0, e1, e2, -⟩ := idx1 t
  show (V c main_v3 : S1024x896x128.Idx → Elt F .f32) (((cfg1.win 0).blk t).view.emb (ix3 r g l)) = _
  congr 1
  funext a; apply Fin.ext
  match a with
  | ⟨0, _⟩ => show win1_0.index t (0 : Fin 3) * 16 + 1 * r.val = 16 * t.val + r.val; omega
  | ⟨1, _⟩ => show win1_0.index t (1 : Fin 3) * 896 + 1 * g.val = g.val; omega
  | ⟨2, _⟩ => show win1_0.index t (2 : Fin 3) * 128 + 1 * l.val = l.val; omega

theorem fin1_1 (t : Fin cfg1.N) (r : Fin 16) (g : Fin 896) :
    ((dat1 V c).arrAt 1 cfg1.N : S1024x896.Idx → Elt F .f32) (ix2 ⟨16 * t.val + r.val, by have := lt1 t; omega⟩ g)
      = out1a (blkIn V cfg1 c 0 t) (ix2 r g) := by
  obtain ⟨-, -, -, e0, e1, -, -, hf, -⟩ := idx1 t
  have h := congrFun (read_final (dat1 V c) 1 rfl (fun t t' h => Fin.ext
    ((idx1 t).2.2.2.1.symm.trans ((congrFun h (0 : Fin 2)).trans (idx1 t').2.2.2.1))) t hf) (ix2 r g)
  refine (Eq.trans ?_ h).trans ?_
  · show _ = ((dat1 V c).arrAt 1 cfg1.N : S1024x896.Idx → Elt F .f32) (((cfg1.win 1).blk t).view.emb (ix2 r g))
    congr 1
    funext a; apply Fin.ext
    match a with
    | ⟨0, _⟩ => show 16 * t.val + r.val = win1_1.index t (0 : Fin 2) * 16 + 1 * r.val; omega
    | ⟨1, _⟩ => show g.val = win1_1.index t (1 : Fin 2) * 896 + 1 * g.val; omega
  · show (dat1 V c).after 1 t (ix2 r g) = _
    rw [after1_1]

theorem fin1_2 (t : Fin cfg1.N) (r : Fin 16) (g : Fin 896) :
    ((dat1 V c).arrAt 2 cfg1.N : S1024x896.Idx → BitVec 32) (ix2 ⟨16 * t.val + r.val, by have := lt1 t; omega⟩ g)
      = out1b (blkIn V cfg1 c 0 t) (ix2 r g) := by
  obtain ⟨-, -, -, -, -, e0, e1, -, hf⟩ := idx1 t
  have h := congrFun (read_final (dat1 V c) 2 rfl (fun t t' h => Fin.ext
    ((idx1 t).2.2.2.2.2.1.symm.trans ((congrFun h (0 : Fin 2)).trans (idx1 t').2.2.2.2.2.1))) t hf) (ix2 r g)
  refine (Eq.trans ?_ h).trans ?_
  · show _ = ((dat1 V c).arrAt 2 cfg1.N : S1024x896.Idx → BitVec 32) (((cfg1.win 2).blk t).view.emb (ix2 r g))
    congr 1
    funext a; apply Fin.ext
    match a with
    | ⟨0, _⟩ => show 16 * t.val + r.val = win1_2.index t (0 : Fin 2) * 16 + 1 * r.val; omega
    | ⟨1, _⟩ => show g.val = win1_2.index t (1 : Fin 2) * 896 + 1 * g.val; omega
  · show (dat1 V c).after 2 t (ix2 r g) = _
    rw [after1_2]

/-! ## The group selection -/

theorem idx2 : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 ∧ win2_2.flush t = true ∧ t.val = 0 :=
  (by decide +kernel : ∀ t : Fin grid2.N, _)

theorem in2_0 (t : Fin cfg2.N) : (blkIn V cfg2 c 0 t : S1024x896.Idx → Elt F .f32) = (V c main_v4_0 : S1024x896.Idx → Elt F .f32) := by
  funext y
  obtain ⟨e0, e1, -⟩ := idx2 t
  show (V c main_v4_0 : S1024x896.Idx → Elt F .f32) (((cfg2.win 0).blk t).view.emb y) = _
  congr 1
  funext a; apply Fin.ext
  match a with
  | ⟨0, _⟩ => show win2_0.index t (0 : Fin 2) * 1024 + 1 * (y 0).val = (y 0).val; omega
  | ⟨1, _⟩ => show win2_0.index t (1 : Fin 2) * 896 + 1 * (y 1).val = (y 1).val; omega

theorem in2_1 (t : Fin cfg2.N) : (blkIn V cfg2 c 1 t : S1024x896.Idx → BitVec 32) = (V c main_v4_1 : S1024x896.Idx → BitVec 32) := by
  funext y
  obtain ⟨-, -, e0, e1, -⟩ := idx2 t
  show (V c main_v4_1 : S1024x896.Idx → BitVec 32) (((cfg2.win 1).blk t).view.emb y) = _
  congr 1
  funext a; apply Fin.ext
  match a with
  | ⟨0, _⟩ => show win2_1.index t (0 : Fin 2) * 1024 + 1 * (y 0).val = (y 0).val; omega
  | ⟨1, _⟩ => show win2_1.index t (1 : Fin 2) * 896 + 1 * (y 1).val = (y 1).val; omega

theorem fin2 : ((dat2 V c).arrAt 2 cfg2.N : S1024x64.Idx → BitVec 32)
      = (out2 (V c main_v4_0 : S1024x896.Idx → Elt F .f32) (V c main_v4_1 : S1024x896.Idx → BitVec 32) : S1024x64.Idx → BitVec 32) := by
  funext y
  let t : Fin cfg2.N := ⟨0, by decide⟩
  obtain ⟨-, -, -, -, e0, e1, hf, -⟩ := idx2 t
  have h := congrFun (read_final (dat2 V c) 2 rfl (fun t t' _ => Fin.ext
    ((idx2 t).2.2.2.2.2.2.2.trans (idx2 t').2.2.2.2.2.2.2.symm)) t hf) y
  refine (Eq.trans ?_ h).trans ?_
  · show _ = ((dat2 V c).arrAt 2 cfg2.N : S1024x64.Idx → BitVec 32) (((cfg2.win 2).blk t).view.emb y)
    congr 1
    funext a; apply Fin.ext
    match a with
    | ⟨0, _⟩ => show (y 0).val = win2_2.index t (0 : Fin 2) * 1024 + 1 * (y 0).val; omega
    | ⟨1, _⟩ => show (y 1).val = win2_2.index t (1 : Fin 2) * 64 + 1 * (y 1).val; omega
  · show (dat2 V c).after 2 t y = _
    rw [after2_2, in2_0, in2_1]

/-! ## The gather of the selected groups -/

theorem idx3 : ∀ t : Fin cfg3.N, win3_0.index t (0 : Fin 2) = t.val ∧ win3_0.index t (1 : Fin 2) = 0
    ∧ win3_1.index t (0 : Fin 3) = t.val ∧ win3_1.index t (1 : Fin 3) = 0 ∧ win3_1.index t (2 : Fin 3) = 0
    ∧ win3_2.index t (0 : Fin 3) = t.val ∧ win3_2.index t (1 : Fin 3) = 0 ∧ win3_2.index t (2 : Fin 3) = 0
    ∧ win3_3.index t (0 : Fin 3) = t.val ∧ win3_3.index t (1 : Fin 3) = 0 ∧ win3_3.index t (2 : Fin 3) = 0
    ∧ win3_2.flush t = true ∧ win3_3.flush t = true :=
  (by decide +kernel : ∀ t : Fin grid3.N, _)

theorem lt3 (t : Fin cfg3.N) : t.val < 128 := t.isLt

theorem in3_0 (t : Fin cfg3.N) (r : Fin 8) (k : Fin 64) :
    (blkIn V cfg3 c 0 t : S8x64.Idx → BitVec 32) (ix2 r k)
      = (V c main_v5 : S1024x64.Idx → BitVec 32) (ix2 ⟨8 * t.val + r.val, by have := lt3 t; omega⟩ k) := by
  obtain ⟨e0, e1, -⟩ := idx3 t
  show (V c main_v5 : S1024x64.Idx → BitVec 32) (((cfg3.win 0).blk t).view.emb (ix2 r k)) = _
  congr 1
  funext a; apply Fin.ext
  match a with
  | ⟨0, _⟩ => show win3_0.index t (0 : Fin 2) * 8 + 1 * r.val = 8 * t.val + r.val; omega
  | ⟨1, _⟩ => show win3_0.index t (1 : Fin 2) * 64 + 1 * k.val = k.val; omega

theorem in3_1 (t : Fin cfg3.N) (r : Fin 8) (g : Fin 896) (l : Fin 128) :
    (blkIn V cfg3 c 1 t : S8x896x128.Idx → Elt F .f32) (ix3 r g l)
      = (V c main_v3 : S1024x896x128.Idx → Elt F .f32) (ix3 ⟨8 * t.val + r.val, by have := lt3 t; omega⟩ g l) := by
  obtain ⟨-, -, e0, e1, e2, -⟩ := idx3 t
  show (V c main_v3 : S1024x896x128.Idx → Elt F .f32) (((cfg3.win 1).blk t).view.emb (ix3 r g l)) = _
  congr 1
  funext a; apply Fin.ext
  match a with
  | ⟨0, _⟩ => show win3_1.index t (0 : Fin 3) * 8 + 1 * r.val = 8 * t.val + r.val; omega
  | ⟨1, _⟩ => show win3_1.index t (1 : Fin 3) * 896 + 1 * g.val = g.val; omega
  | ⟨2, _⟩ => show win3_1.index t (2 : Fin 3) * 128 + 1 * l.val = l.val; omega

theorem fin3_2 (t : Fin cfg3.N) (r : Fin 8) (k : Fin 64) (l : Fin 128) :
    ((dat3 V c).arrAt 2 cfg3.N : S1024x64x128.Idx → Elt F .f32) (ix3 ⟨8 * t.val + r.val, by have := lt3 t; omega⟩ k l)
      = out3a (blkIn V cfg3 c 0 t) (blkIn V cfg3 c 1 t) (ix3 r k l) := by
  obtain ⟨-, -, -, -, -, e0, e1, e2, -, -, -, hf, -⟩ := idx3 t
  have h := congrFun (read_final (dat3 V c) 2 rfl (fun t t' h => Fin.ext
    ((idx3 t).2.2.2.2.2.1.symm.trans ((congrFun h (0 : Fin 3)).trans (idx3 t').2.2.2.2.2.1))) t hf) (ix3 r k l)
  refine (Eq.trans ?_ h).trans ?_
  · show _ = ((dat3 V c).arrAt 2 cfg3.N : S1024x64x128.Idx → Elt F .f32) (((cfg3.win 2).blk t).view.emb (ix3 r k l))
    congr 1
    funext a; apply Fin.ext
    match a with
    | ⟨0, _⟩ => show 8 * t.val + r.val = win3_2.index t (0 : Fin 3) * 8 + 1 * r.val; omega
    | ⟨1, _⟩ => show k.val = win3_2.index t (1 : Fin 3) * 64 + 1 * k.val; omega
    | ⟨2, _⟩ => show l.val = win3_2.index t (2 : Fin 3) * 128 + 1 * l.val; omega
  · show (dat3 V c).after 2 t (ix3 r k l) = _
    rw [after3_2]

theorem fin3_3 (t : Fin cfg3.N) (r : Fin 8) (k : Fin 64) (l : Fin 128) :
    ((dat3 V c).arrAt 3 cfg3.N : S1024x64x128.Idx → BitVec 32) (ix3 ⟨8 * t.val + r.val, by have := lt3 t; omega⟩ k l)
      = out3b (F := F) (blkIn V cfg3 c 0 t) (ix3 r k l) := by
  obtain ⟨-, -, -, -, -, -, -, -, e0, e1, e2, -, hf⟩ := idx3 t
  have h := congrFun (read_final (dat3 V c) 3 rfl (fun t t' h => Fin.ext
    ((idx3 t).2.2.2.2.2.2.2.2.1.symm.trans ((congrFun h (0 : Fin 3)).trans (idx3 t').2.2.2.2.2.2.2.2.1))) t hf) (ix3 r k l)
  refine (Eq.trans ?_ h).trans ?_
  · show _ = ((dat3 V c).arrAt 3 cfg3.N : S1024x64x128.Idx → BitVec 32) (((cfg3.win 3).blk t).view.emb (ix3 r k l))
    congr 1
    funext a; apply Fin.ext
    match a with
    | ⟨0, _⟩ => show 8 * t.val + r.val = win3_3.index t (0 : Fin 3) * 8 + 1 * r.val; omega
    | ⟨1, _⟩ => show k.val = win3_3.index t (1 : Fin 3) * 64 + 1 * k.val; omega
    | ⟨2, _⟩ => show l.val = win3_3.index t (2 : Fin 3) * 128 + 1 * l.val; omega
  · show (dat3 V c).after 3 t (ix3 r k l) = _
    rw [after3_3]

/-! ## The selection among the candidates -/

theorem idx4 : ∀ t : Fin cfg4.N, win4_0.index t (0 : Fin 3) = t.val ∧ win4_0.index t (1 : Fin 3) = 0 ∧ win4_0.index t (2 : Fin 3) = 0
    ∧ win4_1.index t (0 : Fin 3) = t.val ∧ win4_1.index t (1 : Fin 3) = 0 ∧ win4_1.index t (2 : Fin 3) = 0
    ∧ win4_2.index t (0 : Fin 2) = t.val ∧ win4_2.index t (1 : Fin 2) = 0
    ∧ win4_3.index t (0 : Fin 2) = t.val ∧ win4_3.index t (1 : Fin 2) = 0
    ∧ win4_2.flush t = true ∧ win4_3.flush t = true :=
  (by decide +kernel : ∀ t : Fin grid4.N, _)

theorem lt4 (t : Fin cfg4.N) : t.val < 4 := t.isLt

theorem in4_0 (t : Fin cfg4.N) (r : Fin 256) (k : Fin 64) (l : Fin 128) :
    (blkIn V cfg4 c 0 t : S256x64x128.Idx → Elt F .f32) (ix3 r k l)
      = (V c main_v6_0 : S1024x64x128.Idx → Elt F .f32) (ix3 ⟨256 * t.val + r.val, by have := lt4 t; omega⟩ k l) := by
  obtain ⟨e0, e1, e2, -⟩ := idx4 t
  show (V c main_v6_0 : S1024x64x128.Idx → Elt F .f32) (((cfg4.win 0).blk t).view.emb (ix3 r k l)) = _
  congr 1
  funext a; apply Fin.ext
  match a with
  | ⟨0, _⟩ => show win4_0.index t (0 : Fin 3) * 256 + 1 * r.val = 256 * t.val + r.val; omega
  | ⟨1, _⟩ => show win4_0.index t (1 : Fin 3) * 64 + 1 * k.val = k.val; omega
  | ⟨2, _⟩ => show win4_0.index t (2 : Fin 3) * 128 + 1 * l.val = l.val; omega

theorem in4_1 (t : Fin cfg4.N) (r : Fin 256) (k : Fin 64) (l : Fin 128) :
    (blkIn V cfg4 c 1 t : S256x64x128.Idx → BitVec 32) (ix3 r k l)
      = (V c main_v6_1 : S1024x64x128.Idx → BitVec 32) (ix3 ⟨256 * t.val + r.val, by have := lt4 t; omega⟩ k l) := by
  obtain ⟨-, -, -, e0, e1, e2, -⟩ := idx4 t
  show (V c main_v6_1 : S1024x64x128.Idx → BitVec 32) (((cfg4.win 1).blk t).view.emb (ix3 r k l)) = _
  congr 1
  funext a; apply Fin.ext
  match a with
  | ⟨0, _⟩ => show win4_1.index t (0 : Fin 3) * 256 + 1 * r.val = 256 * t.val + r.val; omega
  | ⟨1, _⟩ => show win4_1.index t (1 : Fin 3) * 64 + 1 * k.val = k.val; omega
  | ⟨2, _⟩ => show win4_1.index t (2 : Fin 3) * 128 + 1 * l.val = l.val; omega

theorem fin4_2 (t : Fin cfg4.N) (r : Fin 256) (k : Fin 64) :
    ((dat4 V c).arrAt 2 cfg4.N : S1024x64.Idx → BitVec 32) (ix2 ⟨256 * t.val + r.val, by have := lt4 t; omega⟩ k)
      = out4a (blkIn V cfg4 c 0 t) (blkIn V cfg4 c 1 t) (ix2 r k) := by
  obtain ⟨-, -, -, -, -, -, e0, e1, -, -, hf, -⟩ := idx4 t
  have h := congrFun (read_final (dat4 V c) 2 rfl (fun t t' h => Fin.ext
    ((idx4 t).2.2.2.2.2.2.1.symm.trans ((congrFun h (0 : Fin 2)).trans (idx4 t').2.2.2.2.2.2.1))) t hf) (ix2 r k)
  refine (Eq.trans ?_ h).trans ?_
  · show _ = ((dat4 V c).arrAt 2 cfg4.N : S1024x64.Idx → BitVec 32) (((cfg4.win 2).blk t).view.emb (ix2 r k))
    congr 1
    funext a; apply Fin.ext
    match a with
    | ⟨0, _⟩ => show 256 * t.val + r.val = win4_2.index t (0 : Fin 2) * 256 + 1 * r.val; omega
    | ⟨1, _⟩ => show k.val = win4_2.index t (1 : Fin 2) * 64 + 1 * k.val; omega
  · show (dat4 V c).after 2 t (ix2 r k) = _
    rw [after4_2]

theorem fin4_3 (t : Fin cfg4.N) (r : Fin 256) (k : Fin 64) :
    ((dat4 V c).arrAt 3 cfg4.N : S1024x64.Idx → Elt F .f32) (ix2 ⟨256 * t.val + r.val, by have := lt4 t; omega⟩ k)
      = out4b (blkIn V cfg4 c 0 t) (blkIn V cfg4 c 1 t) (ix2 r k) := by
  obtain ⟨-, -, -, -, -, -, -, -, e0, e1, -, hf⟩ := idx4 t
  have h := congrFun (read_final (dat4 V c) 3 rfl (fun t t' h => Fin.ext
    ((idx4 t).2.2.2.2.2.2.2.2.1.symm.trans ((congrFun h (0 : Fin 2)).trans (idx4 t').2.2.2.2.2.2.2.2.1))) t hf) (ix2 r k)
  refine (Eq.trans ?_ h).trans ?_
  · show _ = ((dat4 V c).arrAt 3 cfg4.N : S1024x64.Idx → Elt F .f32) (((cfg4.win 3).blk t).view.emb (ix2 r k))
    congr 1
    funext a; apply Fin.ext
    match a with
    | ⟨0, _⟩ => show 256 * t.val + r.val = win4_3.index t (0 : Fin 2) * 256 + 1 * r.val; omega
    | ⟨1, _⟩ => show k.val = win4_3.index t (1 : Fin 2) * 64 + 1 * k.val; omega
  · show (dat4 V c).after 3 t (ix2 r k) = _
    rw [after4_3]

/-! ## The weighted sums -/

theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 ∧ win5_2.flush t = true :=
  (by decide +kernel : ∀ t : Fin grid5.N, _)

theorem lt5 (t : Fin cfg5.N) : t.val < 128 := t.isLt

theorem in5_0 (t : Fin cfg5.N) (r : Fin 8) (k : Fin 64) :
    (blkIn V cfg5 c 0 t : S8x64.Idx → BitVec 32) (ix2 r k)
      = (V c main_v7_0 : S1024x64.Idx → BitVec 32) (ix2 ⟨8 * t.val + r.val, by have := lt5 t; omega⟩ k) := by
  obtain ⟨e0, e1, -⟩ := idx5 t
  show (V c main_v7_0 : S1024x64.Idx → BitVec 32) (((cfg5.win 0).blk t).view.emb (ix2 r k)) = _
  congr 1
  funext a; apply Fin.ext
  match a with
  | ⟨0, _⟩ => show win5_0.index t (0 : Fin 2) * 8 + 1 * r.val = 8 * t.val + r.val; omega
  | ⟨1, _⟩ => show win5_0.index t (1 : Fin 2) * 64 + 1 * k.val = k.val; omega

theorem in5_1 (t : Fin cfg5.N) (r : Fin 8) (k : Fin 64) :
    (blkIn V cfg5 c 1 t : S8x64.Idx → Elt F .f32) (ix2 r k)
      = (V c main_v7_1 : S1024x64.Idx → Elt F .f32) (ix2 ⟨8 * t.val + r.val, by have := lt5 t; omega⟩ k) := by
  obtain ⟨-, -, e0, e1, -⟩ := idx5 t
  show (V c main_v7_1 : S1024x64.Idx → Elt F .f32) (((cfg5.win 1).blk t).view.emb (ix2 r k)) = _
  congr 1
  funext a; apply Fin.ext
  match a with
  | ⟨0, _⟩ => show win5_1.index t (0 : Fin 2) * 8 + 1 * r.val = 8 * t.val + r.val; omega
  | ⟨1, _⟩ => show win5_1.index t (1 : Fin 2) * 64 + 1 * k.val = k.val; omega

theorem fin5 (t : Fin cfg5.N) (r : Fin 8) (d : Fin 128) :
    ((dat5 V c).arrAt 2 cfg5.N : S1024x128.Idx → Elt F .f32) (ix2 ⟨8 * t.val + r.val, by have := lt5 t; omega⟩ d)
      = out5 (blkIn V cfg5 c 0 t) (blkIn V cfg5 c 1 t) (V c main_arg2) (ix2 r d) := by
  obtain ⟨-, -, -, -, e0, e1, hf⟩ := idx5 t
  have h := congrFun (read_final (dat5 V c) 2 rfl (fun t t' h => Fin.ext
    ((idx5 t).2.2.2.2.1.symm.trans ((congrFun h (0 : Fin 2)).trans (idx5 t').2.2.2.2.1))) t hf) (ix2 r d)
  refine (Eq.trans ?_ h).trans ?_
  · show _ = ((dat5 V c).arrAt 2 cfg5.N : S1024x128.Idx → Elt F .f32) (((cfg5.win 2).blk t).view.emb (ix2 r d))
    congr 1
    funext a; apply Fin.ext
    match a with
    | ⟨0, _⟩ => show 8 * t.val + r.val = win5_2.index t (0 : Fin 2) * 8 + 1 * r.val; omega
    | ⟨1, _⟩ => show d.val = win5_2.index t (1 : Fin 2) * 128 + 1 * d.val; omega
  · show (dat5 V c).after 2 t (ix2 r d) = _
    rw [after5_2]

end Regions

end Cert.KernelIdeal.Gen

end

end
-- ==== Proof.TopMath.lean ====
/- Selecting the largest entries of a family one round at a time: what a sequence of rounds selects, and why
   selecting groups first loses nothing. No program is mentioned. -/
module

public import Idealize.ShloMosaic.Lib.SortFacts
public import Idealize.ShloMosaic.Lib.SortPrefix
public import Mathlib.Data.EReal.Basic

@[expose] public section

namespace Cert.Top

open Idealize.ShloMosaic

variable {ι : Type} {G L : Type}

/-- `a` may be chosen in preference to `b`: it has the larger value, or the same value and no later position. -/
def Bef (f : ι → EReal) (key : ι → ℕ) (a b : ι) : Prop := f b < f a ∨ (f b = f a ∧ key a ≤ key b)

theorem Bef.trans {f : ι → EReal} {key : ι → ℕ} {a b c : ι} (h : Bef f key a b) (h' : Bef f key b c) : Bef f key a c := by
  rcases h with h | ⟨h, k⟩ <;> rcases h' with h' | ⟨h', k'⟩
  · exact .inl (h'.trans h)
  · exact .inl (h' ▸ h)
  · exact .inl (h ▸ h')
  · exact .inr ⟨h'.trans h, k.trans k'⟩

/-- `p 0, …, p (n-1)` are the `n` first entries: each is new and preferable to everything not chosen before it. -/
def IsTop (f : ι → EReal) (key : ι → ℕ) (n : ℕ) (p : ℕ → ι) : Prop :=
  ∀ i < n, (∀ k < i, p k ≠ p i) ∧ ∀ j, (∀ k < i, p k ≠ j) → Bef f key (p i) j

theorem IsTop.ne {f : ι → EReal} {key : ι → ℕ} {n : ℕ} {p : ℕ → ι} (h : IsTop f key n p) {a b : ℕ} (ha : a < n) (hb : b < n)
    (e : p a = p b) : a = b := by
  rcases lt_trichotomy a b with hab | hab | hab
  · exact absurd e ((h b hb).1 a hab)
  · exact hab
  · exact absurd e.symm ((h a ha).1 b hab)

/-- `M` is the largest value, `c` the least position at which it is taken. -/
structure Pick (w : ι → EReal) (key : ι → ℕ) (M : EReal) (c : ℕ) : Prop where
  top : ∀ j, w j ≤ M
  hit : ∃ j, w j = M ∧ key j = c
  low : ∀ j, w j = M → c ≤ key j

/-- Rounds that take the largest remaining entry and strike it out select the first entries in order. -/
theorem isTop_of_rounds [Fintype ι] [DecidableEq ι] {key : ι → ℕ} (hkey : Function.Injective key) (n : ℕ) (w : ℕ → ι → EReal)
    (M : ℕ → EReal) (c : ℕ → ℕ) (hp : ∀ i < n, Pick (w i) key (M i) (c i))
    (hw : ∀ i < n, ∀ j, w (i + 1) j = if key j = c i then ⊥ else w i j)
    (hbig : ∃ a : Fin n → ι, Function.Injective a ∧ ∀ k, w 0 (a k) ≠ ⊥) (i0 : ι) :
    ∃ p : ℕ → ι, IsTop (w 0) key n p ∧ ∀ i < n, key (p i) = c i ∧ w 0 (p i) = M i ∧ M i ≠ ⊥ := by
  classical
  let p : ℕ → ι := fun i => if h : i < n then (hp i h).hit.choose else i0
  have pv : ∀ i < n, w i (p i) = M i ∧ key (p i) = c i := fun i h => by
    have := (hp i h).hit.choose_spec
    simp only [p, dif_pos h]; exact this
  have inv : ∀ i ≤ n, ∀ j, w i j = if ∃ k < i, p k = j then ⊥ else w 0 j := by
    intro i
    induction i with
    | zero => intro _ j; simp
    | succ i ih =>
      intro hi j
      have hin : i < n := hi
      rw [hw i hin j, ih hin.le j]
      by_cases hj : key j = c i
      · have e : p i = j := hkey ((pv i hin).2.trans hj.symm)
        rw [if_pos hj, if_pos ⟨i, Nat.lt_succ_self i, e⟩]
      · rw [if_neg hj]
        by_cases hk : ∃ k < i, p k = j
        · obtain ⟨k, hk, e⟩ := hk
          rw [if_pos ⟨k, hk, e⟩, if_pos ⟨k, hk.trans (Nat.lt_succ_self i), e⟩]
        · rw [if_neg hk, if_neg]
          rintro ⟨k, hk', e⟩
          rcases Nat.lt_succ_iff_lt_or_eq.mp hk' with h | h
          · exact hk ⟨k, h, e⟩
          · subst h; exact hj (e ▸ (pv k hin).2)
  have hM : ∀ i < n, M i ≠ ⊥ := by
    intro i hi hbot
    obtain ⟨a, ha, hne⟩ := hbig
    have : ((Finset.range i).image p).card < (Finset.univ.image a).card := by
      rw [Finset.card_image_of_injective _ ha, Finset.card_univ, Fintype.card_fin]
      exact (Finset.card_image_le.trans (Finset.card_range i).le).trans_lt hi
    obtain ⟨e, he, hne'⟩ := Finset.exists_mem_notMem_of_card_lt_card this
    obtain ⟨k, -, rfl⟩ := Finset.mem_image.mp he
    have h1 : w i (a k) = w 0 (a k) := by
      rw [inv i hi.le, if_neg]
      rintro ⟨k', hk', e⟩
      exact hne' (Finset.mem_image.mpr ⟨k', Finset.mem_range.mpr hk', e⟩)
    have h2 := (hp i hi).top (a k)
    rw [hbot, h1, le_bot_iff] at h2
    exact hne k h2
  have new : ∀ i < n, ¬ ∃ k < i, p k = p i := by
    intro i hi h
    have := inv i hi.le (p i)
    rw [if_pos h, (pv i hi).1] at this
    exact hM i hi this
  refine ⟨p, fun i hi => ⟨fun k hk e => new i hi ⟨k, hk, e⟩, fun j hj => ?_⟩, fun i hi => ⟨(pv i hi).2, ?_, hM i hi⟩⟩
  · have hpi : w 0 (p i) = M i := by
      have := inv i hi.le (p i)
      rw [if_neg (new i hi), (pv i hi).1] at this
      exact this.symm
    have hji : w i j = w 0 j := by
      rw [inv i hi.le, if_neg]; rintro ⟨k, hk, e⟩; exact hj k hk e
    have h1 := (hp i hi).top j
    rw [hji, ← hpi] at h1
    rcases h1.lt_or_eq with h | h
    · exact .inl h
    · refine .inr ⟨h, ?_⟩
      rw [(pv i hi).2]
      exact (hp i hi).low j (by rw [hji, h, hpi])
  · have := inv i hi.le (p i)
    rw [if_neg (new i hi), (pv i hi).1] at this
    exact this.symm

/-- Rounds that strike out what they take, with nothing assumed of the entries. Each round takes an entry that was above `⊥` at the
    start, or one whose position no other precedes; and one of the latter kind is taken unless `n` entries were above `⊥`. -/
theorem rounds_any {key : ι → ℕ} (n : ℕ) (w : ℕ → ι → EReal)
    (M : ℕ → EReal) (c : ℕ → ℕ) (hp : ∀ i < n, Pick (w i) key (M i) (c i))
    (hw : ∀ i < n, ∀ j, w (i + 1) j = if key j = c i then ⊥ else w i j) (i0 : ι) :
    ∃ p : ℕ → ι, (∀ i < n, key (p i) = c i ∧ (w 0 (p i) ≠ ⊥ ∨ ∀ j, key (p i) ≤ key j))
      ∧ ((∃ i < n, ∀ j, key (p i) ≤ key j) ∨ ∃ a : Fin n → ι, Function.Injective a ∧ ∀ k, w 0 (a k) ≠ ⊥) := by
  classical
  let p : ℕ → ι := fun i => if h : i < n then (hp i h).hit.choose else i0
  have pv : ∀ i < n, w i (p i) = M i ∧ key (p i) = c i := fun i h => by
    have := (hp i h).hit.choose_spec
    simp only [p, dif_pos h]; exact this
  -- an entry at `⊥` stays there
  have stay : ∀ a b, a ≤ b → b ≤ n → ∀ j, w a j = ⊥ → w b j = ⊥ := by
    intro a b hab
    induction b, hab using Nat.le_induction with
    | base => exact fun _ j h => h
    | succ b hab ih =>
      intro hb j h
      rw [hw b hb j, ih (Nat.le_of_succ_le hb) j h, ite_self]
  have least : ∀ i < n, M i = ⊥ → ∀ j, key (p i) ≤ key j := by
    intro i hi hM j
    rw [(pv i hi).2]
    have := (hp i hi).top j
    rw [hM, le_bot_iff] at this
    exact (hp i hi).low j (this.trans hM.symm)
  have up : ∀ i < n, M i ≠ ⊥ → w 0 (p i) ≠ ⊥ := fun i hi hM h => hM ((pv i hi).1 ▸ stay 0 i (Nat.zero_le _) hi.le _ h)
  refine ⟨p, fun i hi => ⟨(pv i hi).2, ?_⟩, ?_⟩
  · by_cases hM : M i = ⊥
    · exact .inr (least i hi hM)
    · exact .inl (up i hi hM)
  by_cases hb : ∃ i < n, M i = ⊥
  · obtain ⟨i, hi, hM⟩ := hb
    exact .inl ⟨i, hi, least i hi hM⟩
  · have hM : ∀ i < n, M i ≠ ⊥ := fun i hi h => hb ⟨i, hi, h⟩
    have new : ∀ k i, k < i → i < n → p k ≠ p i := by
      intro k i hk hi e
      refine hM i hi ?_
      rw [← (pv i hi).1]
      refine stay (k + 1) i hk hi.le _ ?_
      rw [hw k (hk.trans hi), if_pos (e ▸ (pv k (hk.trans hi)).2)]
    refine .inr ⟨fun k => p k.val, fun a b e => Fin.ext ?_, fun k => up k.val k.isLt (hM k.val k.isLt)⟩
    rcases lt_trichotomy a.val b.val with h | h | h
    · exact absurd e (new _ _ h b.isLt)
    · exact h
    · exact absurd e.symm (new _ _ h a.isLt)

/-- Entries in groups: if the groups are ordered by their first entry, the first `n` entries all lie in the first `n`
    groups, and in order they are the first `n` among the entries of those groups. -/
theorem isTop_of_groups {f : G × L → EReal} {pos : G × L → ℕ} {gm : G → EReal} {gi : G → ℕ}
    (hg : ∀ g, Pick (fun l => f (g, l)) (fun l => pos (g, l)) (gm g) (gi g)) {n : ℕ} {pG : ℕ → G} (hG : IsTop gm gi n pG)
    (hpos : Function.Injective pos)
    {q : ℕ → Fin n × L} (hq : IsTop (fun x : Fin n × L => f (pG x.1, x.2)) (fun x => pos (pG x.1, x.2)) n q) :
    IsTop f pos n fun i => (pG (q i).1, (q i).2) := by
  classical
  have inj : ∀ x y : Fin n × L, (pG x.1, x.2) = (pG y.1, y.2) → x = y := by
    rintro ⟨a, b⟩ ⟨a', b'⟩ e
    simp only [Prod.mk.injEq] at e
    exact Prod.ext (Fin.ext (hG.ne a.2 a'.2 e.1)) e.2
  intro i hi
  refine ⟨fun k hk e => (hq i hi).1 k hk (inj _ _ e), ?_⟩
  rintro ⟨g, l⟩ he
  by_cases hsel : ∃ b : Fin n, pG b = g
  · obtain ⟨b, rfl⟩ := hsel
    exact (hq i hi).2 (b, l) fun k hk e => he k hk (by show (pG (q k).1, (q k).2) = _; rw [e])
  · -- the first entry of a chosen group that is not yet taken comes before every entry outside the groups
    let tl : Fin n → L := fun b => (hg (pG b)).hit.choose
    have tlv : ∀ b : Fin n, f (pG b, tl b) = gm (pG b) ∧ pos (pG b, tl b) = gi (pG b) := fun b => (hg (pG b)).hit.choose_spec
    have hcard : ((Finset.range i).image q).card < (Finset.univ.image fun b : Fin n => (b, tl b)).card := by
      rw [Finset.card_image_of_injective _ (fun a b e => (Prod.mk.inj e).1), Finset.card_univ, Fintype.card_fin]
      exact (Finset.card_image_le.trans (Finset.card_range i).le).trans_lt hi
    obtain ⟨e, hmem, hne⟩ := Finset.exists_mem_notMem_of_card_lt_card hcard
    obtain ⟨b, -, rfl⟩ := Finset.mem_image.mp hmem
    have h1 : Bef f pos (pG (q i).1, (q i).2) (pG b, tl b) :=
      (hq i hi).2 (b, tl b) fun k hk e => hne (Finset.mem_image.mpr ⟨k, Finset.mem_range.mpr hk, e⟩)
    refine h1.trans ?_
    have h2 : Bef gm gi (pG b) g := (hG b b.2).2 g fun k hk e => hsel ⟨⟨k, hk.trans b.2⟩, e⟩
    have h3 : f (g, l) ≤ gm g := (hg g).top l
    rcases h2 with h2 | ⟨h2, h2'⟩
    · exact .inl (by rw [(tlv b).1]; exact h3.trans_lt h2)
    · rcases h3.lt_or_eq with h3 | h3
      · exact .inl (by rw [(tlv b).1, ← h2]; exact h3)
      · exact .inr ⟨by rw [(tlv b).1, ← h2, h3], by rw [(tlv b).2]; exact h2'.trans ((hg g).low l h3)⟩

/-- The first entries of a family are those of a part of it that holds them all. -/
theorem IsTop.restrict {κ : Type} {f : ι → EReal} {key : ι → ℕ} {n : ℕ} {p : ℕ → ι} (h : IsTop f key n p) (em : κ → ι) (p' : ℕ → κ)
    (hp : ∀ i < n, em (p' i) = p i) (hem : Function.Injective em) : IsTop (fun x => f (em x)) (fun x => key (em x)) n p' := by
  intro i hi
  refine ⟨fun k hk e => (h i hi).1 k hk (by rw [← hp k (hk.trans hi), ← hp i hi, e]), fun j hj => ?_⟩
  have := (h i hi).2 (em j) fun k hk e => hj k hk (hem (by rw [hp k (hk.trans hi), e]))
  rw [← hp i hi] at this
  exact this

/-! ## The stable sort -/

/-- Larger values first. -/
noncomputable def gtB {N : ℕ} (f : Fin N → EReal) (k k' : Fin N) : Bool := decide (f k' < f k)

/-- Larger values first, and of equal values the earlier position. -/
noncomputable def gtPos {N : ℕ} (f : Fin N → EReal) (k k' : Fin N) : Bool := decide (f k' < f k) || (decide (f k = f k') && decide (k < k'))

theorem gtPos_total {N : ℕ} (f : Fin N → EReal) : StrictTotalBefore (gtPos f) :=
  StrictTotalBefore.of_key_then_position (fun a b : EReal => decide (b < a)) f (fun a => by simp)
    (fun a b c h h' => by simp only [decide_eq_true_eq] at *; exact h'.trans h)
    (fun a b => by
      simp only [decide_eq_true_eq]
      rcases lt_trichotomy a b with h | h | h
      · exact .inr (.inr h)
      · exact .inr (.inl h)
      · exact .inl h)

theorem stableSort_gt {N : ℕ} (f : Fin N → EReal) (l : List (Fin N)) (hl : l.Pairwise (· < ·)) :
    stableSort (gtB f) l = stableSort (gtPos f) l := by
  induction l with
  | nil => rfl
  | cons a l ih =>
    obtain ⟨ha, hl⟩ := List.pairwise_cons.mp hl
    unfold stableSort
    rw [ih hl]
    refine insertBefore_congr _ _ _ _ fun b hb => ?_
    have hab : a < b := ha b ((perm_stableSort _ l).mem_iff.mp hb)
    simp [gtB, gtPos, hab.le]

theorem sortedFrom_gt {N : ℕ} (f : Fin N → EReal) : sortedFrom (gtB f) = sortedFrom (gtPos f) := by
  have h : sortPositions N (gtB f) = sortPositions N (gtPos f) := stableSort_gt f _ (List.pairwise_lt_finRange N)
  funext k
  unfold sortedFrom
  rw [List.get_of_eq h]
  rfl

/-- A stable sort by value, larger first, has the first entries at its head. -/
theorem sortedFrom_of_isTop {N n : ℕ} {f : Fin N → EReal} {p : ℕ → Fin N} (h : IsTop f Fin.val n p) (hn : n ≤ N) (i : Fin n) :
    sortedFrom (gtB f) (i.castLE hn) = p i := by
  rw [sortedFrom_gt]
  have key : ∀ i : Fin n, ∀ j, (∀ k < i.1, p k ≠ j) → gtPos f j (p i) = false := by
    intro i j hj
    have := (h i i.2).2 j hj
    simp only [gtPos, Bool.or_eq_false_iff, Bool.and_eq_false_iff, decide_eq_false_iff_not, not_lt]
    rcases this with h | ⟨h, h'⟩
    · exact ⟨h.le, .inl h.ne⟩
    · exact ⟨h.le, .inr h'⟩
  exact (gtPos_total f).sortedFrom_eq_of_prefix hn (fun i => p i) (fun a b e => Fin.ext (h.ne a.2 b.2 e))
    (fun i j hij => key i _ fun k hk e => absurd (h.ne (hk.trans i.2) j.2 e) (by have : i.1 < j.1 := hij; omega))
    (fun i q hq => key i q fun k hk => hq ⟨k, hk.trans i.2⟩) i

end Cert.Top

end
-- ==== Proof.Select.lean ====
/- What the two selection loops leave, over the extended reals: the slots name the first entries of each row, in order of value
   and, among equal values, of position. -/
module

public import proofs.«01_k».proof.Proof.Arrays
public import proofs.«01_k».proof.Proof.TopMath
public import Idealize.ShloMosaic.Lib.Pointwise
public import Idealize.ShloMosaic.Lib.WordCmp
public import Idealize.ShloMosaic.Lib.WordArith
public import Idealize.ShloMosaic.Lib.WordArith.Masks
public import Idealize.ShloMosaic.Lib.Routing.Words

@[expose] public section

set_option maxRecDepth 16384

noncomputable section

namespace Cert.KernelIdeal.Gen

open Idealize.ShloMosaic Idealize.ShloMosaic.TcCoe
open Cert.Top

/-! ## A counted loop, state by state -/

/-- The state after the first `k` trips. -/
def after {σ : Type} {n : ℕ} (g : Fin n → σ → σ) (init : σ) : ℕ → σ
  | 0 => init
  | k + 1 => if h : k < n then g ⟨k, h⟩ (after g init k) else after g init k

theorem after_succ {σ : Type} {n : ℕ} (g : Fin n → σ → σ) (init : σ) {k : ℕ} (h : k < n) :
    after g init (k + 1) = g ⟨k, h⟩ (after g init k) := by
  rw [after, dif_pos h]

theorem fold_after {σ : Type} {n N : ℕ} (g : Fin n → σ → σ) (init : σ) (hN : n = N) : Scf.fold g init = after g init N := by
  subst hN
  have key : ∀ k ≤ n, ((List.finRange n).take k).foldl (fun a i => g i a) init = after g init k := by
    intro k
    induction k with
    | zero => intro _; simp [after]
    | succ k ih =>
      intro hk
      have hk' : k < n := hk
      rw [List.take_add_one, List.foldl_append, ih hk'.le, after_succ g init hk']
      simp [hk']
  rw [Scf.fold_eq, ← key n le_rfl, List.take_of_length_le (by simp)]

/-- Slots written one per trip keep what their own trip wrote. -/
theorem slots {α : Type} {N : ℕ} (a : ℕ → Fin N → α) (v : ℕ → α) (ha : ∀ k < N, ∀ i : Fin N, a (k + 1) i = if i.val = k then v k else a k i) (i : Fin N) :
    a N i = v i.val := by
  have key : ∀ k ≤ N, i.val < k → a k i = v i.val := by
    intro k
    induction k with
    | zero => intro _ h; omega
    | succ k ih =>
      intro hk h
      rw [ha k hk]
      by_cases e : i.val = k
      · rw [if_pos e, e]
      · rw [if_neg e, ih (by omega) (by omega)]
  exact key N le_rfl i.isLt

/-! ## One round: the largest value and the least position at which it stands -/

theorem negInf : Ideal.ofBits .f32 4286578688#32 = ⊥ := by simp [Ideal.ofBits, Ideal.ieee]

theorem minsi_fold {ι : Type} [DecidableEq ι] (s : Finset ι) (f : ι → BitVec 32) (b : BitVec 32) (hb : b.toNat < 2 ^ 31) (hf : ∀ j, (f j).toNat < 2 ^ 31) :
    (s.fold IntOp.minsi b f).toNat = s.fold min b.toNat (fun j => (f j).toNat) ∧ (s.fold IntOp.minsi b f).toNat < 2 ^ 31 := by
  induction s using Finset.induction_on with
  | empty => exact ⟨rfl, hb⟩
  | insert a s ha ih =>
    rw [Finset.fold_insert ha, Finset.fold_insert ha, WordArith.toNat_minsi_of_lt _ _ (hf a) ih.2, ih.1]
    exact ⟨rfl, lt_of_le_of_lt (min_le_left _ _) (hf a)⟩

/-- The largest value of a family, and the least word among those at which it stands. -/
theorem pick_fold {ι : Type} [Fintype ι] [DecidableEq ι] [Nonempty ι] (w : ι → EReal) (kw f : ι → BitVec 32) (M : EReal) (c : BitVec 32)
    (hk : ∀ j, (kw j).toNat < 2 ^ 30) (hM : M = Finset.univ.fold max (Ideal.ofBits .f32 4286578688#32) w)
    (hc : c = Finset.univ.fold IntOp.minsi 2147483647#32 f) (f1 : ∀ j, w j = M → f j = kw j) (f0 : ∀ j, w j ≠ M → f j = 1073741824#32) :
    Pick w (fun j => (kw j).toNat) M c.toNat := by
  have top : ∀ j, w j ≤ M := fun j => hM ▸ (Finset.le_fold_max _).2 (.inr ⟨j, Finset.mem_univ _, le_rfl⟩)
  have hit : ∃ j, w j = M := by
    rcases (Finset.le_fold_max M).1 (le_of_eq hM) with h | ⟨j, -, h⟩
    · rw [negInf, le_bot_iff] at h
      exact ⟨Classical.arbitrary ι, le_antisymm (top _) (h ▸ bot_le)⟩
    · exact ⟨j, le_antisymm (top j) h⟩
  have hf : ∀ j, (f j).toNat < 2 ^ 31 := by
    intro j
    by_cases e : w j = M
    · rw [f1 j e]; have := hk j; omega
    · rw [f0 j e]; decide
  rw [hc, (minsi_fold (Finset.univ : Finset ι) f 2147483647#32 (by decide) hf).1]
  have low : ∀ j, w j = M → Finset.univ.fold min (2147483647#32 : BitVec 32).toNat (fun j => (f j).toNat) ≤ (kw j).toNat := by
    intro j e
    refine (Finset.fold_min_le _).2 (.inr ⟨j, Finset.mem_univ _, ?_⟩)
    rw [f1 j e]
  refine ⟨top, ?_, low⟩
  obtain ⟨j0, h0⟩ := hit
  rcases (Finset.fold_min_le (s := Finset.univ) (b := (2147483647#32 : BitVec 32).toNat) (f := fun j => (f j).toNat)
    (Finset.univ.fold min (2147483647#32 : BitVec 32).toNat (fun j => (f j).toNat))).1 le_rfl with h | ⟨j, -, h⟩
  · have := low j0 h0; have := hk j0
    have e : (2147483647#32 : BitVec 32).toNat = 2147483647 := rfl
    omega
  · by_cases e : w j = M
    · rw [f1 j e] at h
      exact ⟨j, e, le_antisymm h (low j e)⟩
    · rw [f0 j e] at h
      have := low j0 h0; have := hk j0
      have e : (1073741824#32 : BitVec 32).toNat = 1073741824 := rfl
      omega

/-- Striking out the entry whose word is `c`. -/
theorem strike (k c : BitVec 32) (b : EReal) :
    Scalar.select (IntOp.cmpi .eq k c) (Ideal.ofBits .f32 4286578688#32) b = if k.toNat = c.toNat then ⊥ else b := by
  rw [negInf]
  unfold Scalar.select IntOp.cmpi
  by_cases h : k = c
  · subst h; simp
  · have : ¬ k.toNat = c.toNat := fun e => h (BitVec.eq_of_toNat_eq e)
    have hb : (k == c) = false := by simpa using h
    simp only [hb, if_neg this]; rfl

/-- Writing the slot whose number is `k`. -/
theorem slot_write {α : Type} {N : ℕ} (hN : N < 2 ^ 32) (k : ℕ) (hk : k < N) (i : Fin N) (a b : α) :
    Scalar.select (IntOp.cmpi .eq (BitVec.ofNat 32 i.val) (Scf.iv 0#32 1#32 k)) a b = if i.val = k then a else b := by
  have e : Scf.iv 0#32 1#32 k = BitVec.ofNat 32 k := by simp [Scf.iv]
  rw [e]
  unfold Scalar.select IntOp.cmpi
  by_cases h : i.val = k
  · simp [h]
  · have : ¬ BitVec.ofNat 32 i.val = BitVec.ofNat 32 k := by
      intro e
      have := congrArg BitVec.toNat e
      rw [BitVec.toNat_ofNat, BitVec.toNat_ofNat, Nat.mod_eq_of_lt (by omega), Nat.mod_eq_of_lt (by omega)] at this
      exact h this
    have hb : (BitVec.ofNat 32 i.val == BitVec.ofNat 32 k) = false := by simpa using this
    simp only [hb, if_neg h]; rfl

/-! ## The groups' maxima -/

theorem pick1 (x0 : Vec Ideal S16x896x128 .f32) (r : Fin 16) (g : Fin 896) :
    Pick (fun l : Fin 128 => x0 (ix3 r g l)) (fun l => 128 * g.val + l.val) (out1a (F := Ideal) x0 (ix2 r g)) (out1b (F := Ideal) x0 (ix2 r g)).toNat := by
  have hw : ∀ l : Fin 128, (IntOp.addi (IntOp.muli (BitVec.ofNat 32 g.val) 128#32) (BitVec.ofNat 32 l.val)).toNat = 128 * g.val + l.val := by
    intro l
    have := g.isLt; have := l.isLt
    simp only [IntOp.addi, IntOp.muli, BitVec.toNat_add, BitVec.toNat_mul, BitVec.toNat_ofNat]
    omega
  have key := pick_fold (fun l : Fin 128 => x0 (ix3 r g l)) (fun l => IntOp.addi (IntOp.muli (BitVec.ofNat 32 g.val) 128#32) (BitVec.ofNat 32 l.val))
    (fun l => if x0 (ix3 r g l) = k1_pay2 x0 (ix2 r g) then IntOp.addi (IntOp.muli (BitVec.ofNat 32 g.val) 128#32) (BitVec.ofNat 32 l.val) else 1073741824#32)
    (out1a (F := Ideal) x0 (ix2 r g)) (out1b (F := Ideal) x0 (ix2 r g))
    (fun l => by rw [hw]; have := g.isLt; have := l.isLt; omega)
    (by unfold out1a k1_pay2 k1_pay1; pointwise) (by unfold out1b k1_pay3 k1_pay1; pointwise)
    (fun l h => if_pos h) (fun l h => if_neg h)
  simpa only [hw] using key

/-! ## The selected groups -/

/-- The group of a position: the quotient by 128, computed on words. -/
theorem quot_word (c : BitVec 32) (g : ℕ) (hg : g < 896) (h1 : 128 * g ≤ c.toNat) (h2 : c.toNat < 128 * g + 128) :
    IntOp.minsi (Scalar.select (IntOp.andi
        (IntOp.cmpi .ne (IntOp.subi (BitVec.setWidth 32 (IntOp.cmpi .sgt c 0#32)) (BitVec.setWidth 32 (IntOp.cmpi .slt c 0#32)))
          (Scalar.subi (Scalar.extui (Scalar.cmpi .sgt 128#32 0#32)) (Scalar.extui (Scalar.cmpi .slt 128#32 0#32))))
        (IntOp.cmpi .ne (IntOp.remsi .vector c 128#32) 0#32))
      (IntOp.subi (IntOp.divsi .vector c 128#32) 1#32) (IntOp.divsi .vector c 128#32)) 895#32 = BitVec.ofNat 32 g := by
  obtain ⟨a, ha, rfl⟩ : ∃ a, a < 2 ^ 31 ∧ c = BitVec.ofNat 32 a := ⟨c.toNat, by omega, by simp⟩
  have e : (BitVec.ofNat 32 a).toNat = a := by rw [BitVec.toNat_ofNat]; omega
  rw [e] at h1 h2
  have hd : IntOp.divsi .vector (BitVec.ofNat 32 a) 128#32 = BitVec.ofNat 32 g := by
    rw [Routing.divsi_word .vector ha (by decide) (by decide), show a / 128 = g by omega]
  have hc : IntOp.andi
        (IntOp.cmpi .ne (IntOp.subi (BitVec.setWidth 32 (IntOp.cmpi .sgt (BitVec.ofNat 32 a) 0#32)) (BitVec.setWidth 32 (IntOp.cmpi .slt (BitVec.ofNat 32 a) 0#32)))
          (Scalar.subi (Scalar.extui (Scalar.cmpi .sgt 128#32 0#32)) (Scalar.extui (Scalar.cmpi .slt 128#32 0#32))))
        (IntOp.cmpi .ne (IntOp.remsi .vector (BitVec.ofNat 32 a) 128#32) 0#32) = 0#1 := by
    rcases Nat.eq_zero_or_pos a with h | h
    · subst h; rw [Routing.remsi_word .vector (by decide) (by decide) (by decide)]; decide
    · have s1 : IntOp.cmpi .sgt (BitVec.ofNat 32 a) 0#32 = 1#1 := by
        rw [WordCmp.cmpi_sgt_ofNat (a := a) (b := 0) (by omega) (by omega)]; simp [h]
      have s2 : IntOp.cmpi .slt (BitVec.ofNat 32 a) 0#32 = 0#1 := by
        rw [WordCmp.cmpi_slt_ofNat (a := a) (b := 0) (by omega) (by omega)]; simp
      rw [s1, s2]
      have : IntOp.cmpi .ne (IntOp.subi (BitVec.setWidth 32 1#1) (BitVec.setWidth 32 0#1))
          (Scalar.subi (Scalar.extui (Scalar.cmpi .sgt 128#32 0#32)) (Scalar.extui (Scalar.cmpi .slt 128#32 0#32))) = 0#1 := by decide
      rw [this]
      simp [IntOp.andi]
  rw [hc, hd]
  apply BitVec.eq_of_toNat_eq
  rw [show Scalar.select (0#1) (IntOp.subi (BitVec.ofNat 32 g) 1#32) (BitVec.ofNat 32 g) = BitVec.ofNat 32 g from rfl,
    WordArith.toNat_minsi_of_lt _ _ (by rw [BitVec.toNat_ofNat]; omega) (by decide), BitVec.toNat_ofNat, show (895#32 : BitVec 32).toNat = 895 from rfl]
  omega

theorem trips2 : k2_t1_loop.trips = 64 := by decide

/-- The state of the group selection after `k` trips. -/
def st2 (x0 : Vec Ideal S1024x896 .f32) (x1 : Vec Ideal S1024x896 .i32) : ℕ → FVec Ideal S1024x896 .f32 × IVec S1024x64 32 :=
  after (step2 (F := Ideal) x1) (k2_pay1 x0, k2_pay3)

theorem st2_succ (x0 : Vec Ideal S1024x896 .f32) (x1 : Vec Ideal S1024x896 .i32) (k : ℕ) (hk : k < 64) :
    st2 x0 x1 (k + 1) = step2 x1 ⟨k, trips2 ▸ hk⟩ (st2 x0 x1 k) := after_succ _ _ _

theorem st2_fst (x0 : Vec Ideal S1024x896 .f32) (x1 : Vec Ideal S1024x896 .i32) (k : ℕ) (hk : k < 64) :
    (st2 x0 x1 (k + 1)).1 = k2_pay6 (F := Ideal) x1 (st2 x0 x1 k).1 := by
  rw [st2_succ _ _ k hk, step2]

theorem strike2 (x1 : Vec Ideal S1024x896 .i32) (y : FVec Ideal S1024x896 .f32) (r : Fin 1024) (g : Fin 896) :
    k2_pay6 (F := Ideal) x1 y (ix2 r g) = if (x1 (ix2 r g)).toNat = (k2_pay4 (F := Ideal) x1 y (ix2 r 0)).toNat then ⊥ else y (ix2 r g) := by
  rw [← strike]
  unfold k2_pay6 k2_pay2
  pointwise

theorem st2_zero (x0 : Vec Ideal S1024x896 .f32) (x1 : Vec Ideal S1024x896 .i32) (r : Fin 1024) (g : Fin 896) :
    (st2 x0 x1 0).1 (ix2 r g) = x0 (ix2 r g) := by
  show k2_pay1 x0 (ix2 r g) = _
  unfold k2_pay1
  pointwise

theorem round2 (x0 : Vec Ideal S1024x896 .f32) (x1 : Vec Ideal S1024x896 .i32) (r : Fin 1024)
    (hx : ∀ g : Fin 896, 128 * g.val ≤ (x1 (ix2 r g)).toNat ∧ (x1 (ix2 r g)).toNat < 128 * g.val + 128) (i : ℕ) :
    Pick (fun g => (st2 x0 x1 i).1 (ix2 r g)) (fun g => (x1 (ix2 r g)).toNat)
      (Finset.univ.fold max (Ideal.ofBits .f32 4286578688#32) fun g => (st2 x0 x1 i).1 (ix2 r g)) (k2_pay4 (F := Ideal) x1 (st2 x0 x1 i).1 (ix2 r 0)).toNat := by
  have hlt : ∀ g : Fin 896, (x1 (ix2 r g)).toNat < 2 ^ 30 := fun g => by have := hx g; have := g.isLt; omega
  generalize (st2 x0 x1 i).1 = y
  exact pick_fold (fun g : Fin 896 => y (ix2 r g)) (fun g => x1 (ix2 r g))
    (fun g => if y (ix2 r g) = Finset.univ.fold max (Ideal.ofBits .f32 4286578688#32) (fun g => y (ix2 r g)) then x1 (ix2 r g) else 1073741824#32) _ _ hlt
    rfl (by unfold k2_pay4 k2_pay2; pointwise) (fun g h => if_pos h) (fun g h => if_neg h)

theorem next2 (x0 : Vec Ideal S1024x896 .f32) (x1 : Vec Ideal S1024x896 .i32) (r : Fin 1024) (i : ℕ) (hi : i < 64) (g : Fin 896) :
    (st2 x0 x1 (i + 1)).1 (ix2 r g)
      = if (x1 (ix2 r g)).toNat = (k2_pay4 (F := Ideal) x1 (st2 x0 x1 i).1 (ix2 r 0)).toNat then ⊥ else (st2 x0 x1 i).1 (ix2 r g) := by
  rw [st2_fst _ _ i hi, strike2]

theorem slots2 (x0 : Vec Ideal S1024x896 .f32) (x1 : Vec Ideal S1024x896 .i32) (r : Fin 1024)
    (hx : ∀ g : Fin 896, 128 * g.val ≤ (x1 (ix2 r g)).toNat ∧ (x1 (ix2 r g)).toNat < 128 * g.val + 128)
    (p : ℕ → Fin 896) (hq : ∀ k < 64, (x1 (ix2 r (p k))).toNat = (k2_pay4 (F := Ideal) x1 (st2 x0 x1 k).1 (ix2 r 0)).toNat) (i : Fin 64) :
    out2 (F := Ideal) x0 x1 (ix2 r i) = BitVec.ofNat 32 (p i.val).val := by
  have e : out2 (F := Ideal) x0 x1 = (st2 x0 x1 64).2 := by
    unfold out2 st2
    exact congrArg Prod.snd (fold_after _ _ trips2)
  rw [e]
  refine slots (fun k (i : Fin 64) => (st2 x0 x1 k).2 (ix2 r i)) (fun k => BitVec.ofNat 32 (p k).val) (fun k hk i => ?_) i
  show (st2 x0 x1 (k + 1)).2 (ix2 r i) = if i.val = k then _ else (st2 x0 x1 k).2 (ix2 r i)
  rw [st2_succ _ _ k hk]
  show k2_pay5 (F := Ideal) x1 _ (st2 x0 x1 k).1 (st2 x0 x1 k).2 (ix2 r i) = _
  have hb := hx (p k)
  rw [hq k hk] at hb
  rw [← quot_word (k2_pay4 (F := Ideal) x1 (st2 x0 x1 k).1 (ix2 r 0)) (p k).val (p k).isLt hb.1 hb.2, ← slot_write (by decide) k hk i]
  generalize (st2 x0 x1 k).1 = y
  unfold k2_pay5
  pointwise

/-- Each row's slots name the groups that hold the first maxima, in order. -/
theorem sel2 (x0 : Vec Ideal S1024x896 .f32) (x1 : Vec Ideal S1024x896 .i32) (r : Fin 1024)
    (hx : ∀ g : Fin 896, 128 * g.val ≤ (x1 (ix2 r g)).toNat ∧ (x1 (ix2 r g)).toNat < 128 * g.val + 128)
    (hbig : ∃ a : Fin 64 → Fin 896, Function.Injective a ∧ ∀ k, x0 (ix2 r (a k)) ≠ ⊥) :
    ∃ p : ℕ → Fin 896, IsTop (fun g => x0 (ix2 r g)) (fun g => (x1 (ix2 r g)).toNat) 64 p
      ∧ ∀ i : Fin 64, x0 (ix2 r (p i.val)) ≠ ⊥ ∧ out2 (F := Ideal) x0 x1 (ix2 r i) = BitVec.ofNat 32 (p i.val).val := by
  have h0 := st2_zero x0 x1 r
  have hinj : Function.Injective fun g : Fin 896 => (x1 (ix2 r g)).toNat := by
    intro a b h
    have ha := hx a; have hb := hx b
    simp only at h
    exact Fin.ext (by omega)
  obtain ⟨p, hp1, hp2⟩ := isTop_of_rounds hinj 64 (fun i g => (st2 x0 x1 i).1 (ix2 r g)) _ _ (fun i _ => round2 x0 x1 r hx i) (next2 x0 x1 r)
    (by simpa only [h0] using hbig) 0
  refine ⟨p, by simpa only [h0] using hp1, fun i => ⟨?_, slots2 x0 x1 r hx p (fun k hk => (hp2 k hk).1) i⟩⟩
  have h := hp2 i.val i.isLt
  rw [← h0, h.2.1]
  exact h.2.2

/-- With nothing assumed of the maxima: the slots name groups, and one of them names the first group unless sixty-four maxima are above `⊥`. -/
theorem sel2_any (x0 : Vec Ideal S1024x896 .f32) (x1 : Vec Ideal S1024x896 .i32) (r : Fin 1024)
    (hx : ∀ g : Fin 896, 128 * g.val ≤ (x1 (ix2 r g)).toNat ∧ (x1 (ix2 r g)).toNat < 128 * g.val + 128) :
    ∃ p : ℕ → Fin 896, (∀ i : Fin 64, out2 (F := Ideal) x0 x1 (ix2 r i) = BitVec.ofNat 32 (p i.val).val)
      ∧ ((∃ i : Fin 64, (p i.val).val = 0) ∨ ∃ a : Fin 64 → Fin 896, Function.Injective a ∧ ∀ k, x0 (ix2 r (a k)) ≠ ⊥) := by
  obtain ⟨p, hp1, hp2⟩ := rounds_any 64 (fun i g => (st2 x0 x1 i).1 (ix2 r g)) _ _ (fun i _ => round2 x0 x1 r hx i) (next2 x0 x1 r) 0
  refine ⟨p, slots2 x0 x1 r hx p fun k hk => (hp1 k hk).1, ?_⟩
  rcases hp2 with ⟨i, hi, h⟩ | h
  · refine .inl ⟨⟨i, hi⟩, ?_⟩
    have h0 := h 0
    have ha := hx (p i); have hb := hx 0
    have hz : (0 : Fin 896).val = 0 := rfl
    show (p i).val = 0
    omega
  · exact .inr (by simpa only [st2_zero x0 x1 r] using h)

/-! ## The selected entries -/

theorem trips4 : k4_t1_loop.trips = 64 := by decide

/-- The state of the entry selection after `k` trips. -/
def st4 (x0 : Vec Ideal S256x64x128 .f32) (x1 : Vec Ideal S256x64x128 .i32) : ℕ → FVec Ideal S256x64x128 .f32 × FVec Ideal S256x64 .f32 × IVec S256x64 32 :=
  after (step4 (F := Ideal) x1) (k4_pay1 x0, k4_pay3 (F := Ideal), k4_pay4)

theorem st4_succ (x0 : Vec Ideal S256x64x128 .f32) (x1 : Vec Ideal S256x64x128 .i32) (k : ℕ) (hk : k < 64) :
    st4 x0 x1 (k + 1) = step4 x1 ⟨k, trips4 ▸ hk⟩ (st4 x0 x1 k) := after_succ _ _ _

theorem st4_fst (x0 : Vec Ideal S256x64x128 .f32) (x1 : Vec Ideal S256x64x128 .i32) (k : ℕ) (hk : k < 64) :
    (st4 x0 x1 (k + 1)).1 = k4_pay9 (F := Ideal) x1 (st4 x0 x1 k).1 := by
  rw [st4_succ _ _ k hk, step4]

theorem strike4 (x1 : Vec Ideal S256x64x128 .i32) (y : FVec Ideal S256x64x128 .f32) (r : Fin 256) (b : Fin 64) (l : Fin 128) :
    k4_pay9 (F := Ideal) x1 y (ix3 r b l) = if (x1 (ix3 r b l)).toNat = (k4_pay6 (F := Ideal) x1 y (ix1 r)).toNat then ⊥ else y (ix3 r b l) := by
  rw [← strike]
  unfold k4_pay9 k4_pay2
  pointwise

theorem st4_zero (x0 : Vec Ideal S256x64x128 .f32) (x1 : Vec Ideal S256x64x128 .i32) (r : Fin 256) (x : Fin 64 × Fin 128) :
    (st4 x0 x1 0).1 (ix3 r x.1 x.2) = x0 (ix3 r x.1 x.2) := by
  show k4_pay1 x0 (ix3 r x.1 x.2) = _
  unfold k4_pay1
  pointwise

theorem round4 (x0 : Vec Ideal S256x64x128 .f32) (x1 : Vec Ideal S256x64x128 .i32) (r : Fin 256)
    (hlt : ∀ x : Fin 64 × Fin 128, (x1 (ix3 r x.1 x.2)).toNat < 2 ^ 30) (i : ℕ) :
    Pick (fun x : Fin 64 × Fin 128 => (st4 x0 x1 i).1 (ix3 r x.1 x.2)) (fun x => (x1 (ix3 r x.1 x.2)).toNat)
      (k4_pay5 (F := Ideal) (st4 x0 x1 i).1 (ix1 r)) (k4_pay6 (F := Ideal) x1 (st4 x0 x1 i).1 (ix1 r)).toNat := by
  generalize (st4 x0 x1 i).1 = y
  exact pick_fold (fun x : Fin 64 × Fin 128 => y (ix3 r x.1 x.2)) (fun x => x1 (ix3 r x.1 x.2))
    (fun x => if y (ix3 r x.1 x.2) = k4_pay5 (F := Ideal) y (ix1 r) then x1 (ix3 r x.1 x.2) else 1073741824#32) _ _ hlt
    (by unfold k4_pay5; pointwise) (by unfold k4_pay6 k4_pay2; pointwise) (fun g h => if_pos h) (fun g h => if_neg h)

theorem next4 (x0 : Vec Ideal S256x64x128 .f32) (x1 : Vec Ideal S256x64x128 .i32) (r : Fin 256) (i : ℕ) (hi : i < 64) (x : Fin 64 × Fin 128) :
    (st4 x0 x1 (i + 1)).1 (ix3 r x.1 x.2)
      = if (x1 (ix3 r x.1 x.2)).toNat = (k4_pay6 (F := Ideal) x1 (st4 x0 x1 i).1 (ix1 r)).toNat then ⊥ else (st4 x0 x1 i).1 (ix3 r x.1 x.2) := by
  rw [st4_fst _ _ i hi, strike4]

theorem st4_last (x0 : Vec Ideal S256x64x128 .f32) (x1 : Vec Ideal S256x64x128 .i32) : fold4 (F := Ideal) x0 x1 = st4 x0 x1 64 := by
  unfold fold4 st4
  exact fold_after _ _ trips4

theorem slots4 (x0 : Vec Ideal S256x64x128 .f32) (x1 : Vec Ideal S256x64x128 .i32) (r : Fin 256)
    (q : ℕ → Fin 64 × Fin 128) (hq : ∀ k < 64, (x1 (ix3 r (q k).1 (q k).2)).toNat = (k4_pay6 (F := Ideal) x1 (st4 x0 x1 k).1 (ix1 r)).toNat) (i : Fin 64) :
    out4a (F := Ideal) x0 x1 (ix2 r i) = x1 (ix3 r (q i.val).1 (q i.val).2) := by
  rw [out4a, st4_last]
  refine slots (fun k (i : Fin 64) => (st4 x0 x1 k).2.2 (ix2 r i)) (fun k => x1 (ix3 r (q k).1 (q k).2)) (fun k hk i => ?_) i
  show (st4 x0 x1 (k + 1)).2.2 (ix2 r i) = if i.val = k then _ else (st4 x0 x1 k).2.2 (ix2 r i)
  rw [st4_succ _ _ k hk]
  show k4_pay8 (F := Ideal) x1 _ (st4 x0 x1 k).1 (st4 x0 x1 k).2.2 (ix2 r i) = _
  rw [BitVec.eq_of_toNat_eq (hq k hk), ← slot_write (by decide) k hk i]
  generalize (st4 x0 x1 k).1 = y
  unfold k4_pay8
  pointwise

/-- Each row's slots hold the first entries and their positions, in order. -/
theorem sel4 (x0 : Vec Ideal S256x64x128 .f32) (x1 : Vec Ideal S256x64x128 .i32) (r : Fin 256)
    (hlt : ∀ x : Fin 64 × Fin 128, (x1 (ix3 r x.1 x.2)).toNat < 2 ^ 30)
    (hinj : Function.Injective fun x : Fin 64 × Fin 128 => (x1 (ix3 r x.1 x.2)).toNat)
    (hbig : ∃ a : Fin 64 → Fin 64 × Fin 128, Function.Injective a ∧ ∀ k, x0 (ix3 r (a k).1 (a k).2) ≠ ⊥) :
    ∃ q : ℕ → Fin 64 × Fin 128, IsTop (fun x : Fin 64 × Fin 128 => x0 (ix3 r x.1 x.2)) (fun x => (x1 (ix3 r x.1 x.2)).toNat) 64 q
      ∧ ∀ i : Fin 64, x0 (ix3 r (q i.val).1 (q i.val).2) ≠ ⊥ ∧ out4a (F := Ideal) x0 x1 (ix2 r i) = x1 (ix3 r (q i.val).1 (q i.val).2)
        ∧ (fold4 (F := Ideal) x0 x1).2.1 (ix2 r i) = x0 (ix3 r (q i.val).1 (q i.val).2) := by
  have h0 := st4_zero x0 x1 r
  obtain ⟨q, hq1, hq2⟩ := isTop_of_rounds hinj 64 (fun i x => (st4 x0 x1 i).1 (ix3 r x.1 x.2)) _ _ (fun i _ => round4 x0 x1 r hlt i) (next4 x0 x1 r)
    (by simpa only [h0] using hbig) (0, 0)
  simp only [h0] at hq1 hq2
  refine ⟨q, hq1, fun i => ⟨?_, slots4 x0 x1 r q (fun k hk => (hq2 k hk).1) i, ?_⟩⟩
  · rw [(hq2 i.val i.isLt).2.1]; exact (hq2 i.val i.isLt).2.2
  · rw [st4_last]
    refine slots (fun k (i : Fin 64) => (st4 x0 x1 k).2.1 (ix2 r i)) (fun k => x0 (ix3 r (q k).1 (q k).2)) (fun k hk i => ?_) i
    show (st4 x0 x1 (k + 1)).2.1 (ix2 r i) = if i.val = k then _ else (st4 x0 x1 k).2.1 (ix2 r i)
    rw [st4_succ _ _ k hk]
    show k4_pay7 (F := Ideal) _ (st4 x0 x1 k).1 (st4 x0 x1 k).2.1 (ix2 r i) = _
    rw [(hq2 k hk).2.1, ← slot_write (by decide) k hk i]
    generalize (st4 x0 x1 k).1 = y
    unfold k4_pay7
    pointwise

/-- With nothing assumed of the entries: each slot holds the position of an entry above `⊥`, or one that no other precedes. -/
theorem sel4_any (x0 : Vec Ideal S256x64x128 .f32) (x1 : Vec Ideal S256x64x128 .i32) (r : Fin 256)
    (hlt : ∀ x : Fin 64 × Fin 128, (x1 (ix3 r x.1 x.2)).toNat < 2 ^ 30) :
    ∃ q : ℕ → Fin 64 × Fin 128, ∀ i : Fin 64, out4a (F := Ideal) x0 x1 (ix2 r i) = x1 (ix3 r (q i.val).1 (q i.val).2)
      ∧ (x0 (ix3 r (q i.val).1 (q i.val).2) ≠ ⊥ ∨ ∀ y : Fin 64 × Fin 128, (x1 (ix3 r (q i.val).1 (q i.val).2)).toNat ≤ (x1 (ix3 r y.1 y.2)).toNat) := by
  obtain ⟨q, hq, -⟩ := rounds_any 64 (fun i (x : Fin 64 × Fin 128) => (st4 x0 x1 i).1 (ix3 r x.1 x.2)) _ _ (fun i _ => round4 x0 x1 r hlt i) (next4 x0 x1 r) (0, 0)
  simp only [st4_zero x0 x1 r] at hq
  exact ⟨q, fun i => ⟨slots4 x0 x1 r q (fun k hk => (hq k hk).1) i, (hq i.val i.isLt).2⟩⟩

end Cert.KernelIdeal.Gen

end

end
-- ==== Proof.Chain.lean ====
/- What the calls hand on to one another, over the extended reals. -/
module

public import proofs.«01_k».proof.Proof.Select
public import Idealize.ShloMosaic.Lib.StableHlo

@[expose] public section

set_option maxRecDepth 16384

noncomputable section

namespace Cert.KernelIdeal.Gen

open Idealize.ShloMosaic Idealize.ShloMosaic.TcCoe
open Cert.Top

section Reads
variable {F : FTy → Type} [FloatOps F] (m : (ℓ : Loc nD τ sig) → Buf (Elt F) ℓ) (c : Dev nD)

theorem inj0 : Function.Injective (Pipeline.arrRef spec0) := by decide
theorem inj1 : Function.Injective (Pipeline.arrRef spec1) := by decide
theorem inj2 : Function.Injective (Pipeline.arrRef spec2) := by decide
theorem inj3 : Function.Injective (Pipeline.arrRef spec3) := by decide
theorem inj4 : Function.Injective (Pipeline.arrRef spec4) := by decide
theorem inj5 : Function.Injective (Pipeline.arrRef spec5) := by decide

theorem U1_arg0 : U1 m c main_arg0 = m (c, main_arg0) := StableHlo.after_of_writes_sub hostOps0 _ hostOps0_writes (by decide)
theorem U1_arg1 : U1 m c main_arg1 = m (c, main_arg1) := StableHlo.after_of_writes_sub hostOps0 _ hostOps0_writes (by decide)
theorem U1_arg2 : U1 m c main_arg2 = m (c, main_arg2) := StableHlo.after_of_writes_sub hostOps0 _ hostOps0_writes (by decide)

theorem U2_v2 : U2 m c main_v2 = (dat0 (rd (U1 m)) c).arrAt 2 cfg0.N := Pipeline.withArrays_arr spec0 inj0 c _ _ 2
theorem U4_v4_0 : U4 m c main_v4_0 = (dat1 (rd (U3 m)) c).arrAt 1 cfg1.N := Pipeline.withArrays_arr spec1 inj1 c _ _ 1
theorem U4_v4_1 : U4 m c main_v4_1 = (dat1 (rd (U3 m)) c).arrAt 2 cfg1.N := Pipeline.withArrays_arr spec1 inj1 c _ _ 2
theorem U5_v5 : U5 m c main_v5 = (dat2 (rd (U4 m)) c).arrAt 2 cfg2.N := Pipeline.withArrays_arr spec2 inj2 c _ _ 2
theorem U6_v6_0 : U6 m c main_v6_0 = (dat3 (rd (U5 m)) c).arrAt 2 cfg3.N := Pipeline.withArrays_arr spec3 inj3 c _ _ 2
theorem U6_v6_1 : U6 m c main_v6_1 = (dat3 (rd (U5 m)) c).arrAt 3 cfg3.N := Pipeline.withArrays_arr spec3 inj3 c _ _ 3
theorem U7_v7_0 : U7 m c main_v7_0 = (dat4 (rd (U6 m)) c).arrAt 2 cfg4.N := Pipeline.withArrays_arr spec4 inj4 c _ _ 2
theorem U7_v7_1 : U7 m c main_v7_1 = (dat4 (rd (U6 m)) c).arrAt 3 cfg4.N := Pipeline.withArrays_arr spec4 inj4 c _ _ 3
theorem U8_v8 : U8 m c main_v8 = (dat5 (rd (U7 m)) c).arrAt 2 cfg5.N := Pipeline.withArrays_arr spec5 inj5 c _ _ 2

/-- The grouped scores pass through the two calls that read or skip them. -/
theorem U5_v3 : U5 m c main_v3 = U3 m c main_v3 := by
  have h4 : U4 m c main_v3 = U3 m c main_v3 :=
    (Pipeline.withArrays_arr spec1 inj1 c _ _ 0).trans (((dat1 (rd (U3 m)) c).arrAt_in 0 rfl _).trans (A_eq1 _ c 0))
  have h5 : U5 m c main_v3 = U4 m c main_v3 := Pipeline.withArrays_of_ne spec2 c _ _ main_v3 (by decide)
  exact h5.trans h4

/-- The last call's two operands hold what the fourth call left. -/
theorem U8_v7_0 : U8 m c main_v7_0 = U7 m c main_v7_0 :=
  (Pipeline.withArrays_arr spec5 inj5 c _ _ 0).trans (((dat5 (rd (U7 m)) c).arrAt_in 0 rfl _).trans (A_eq5 _ c 0))
theorem U8_v7_1 : U8 m c main_v7_1 = U7 m c main_v7_1 :=
  (Pipeline.withArrays_arr spec5 inj5 c _ _ 1).trans (((dat5 (rd (U7 m)) c).arrAt_in 1 rfl _).trans (A_eq5 _ c 1))

/-- An array that is neither written by a host operation nor a window of a call holds what it held. -/
theorem U7_rest (b : Ref sig .tc) (h0 : b ∉ hostOps0_W)
    (h1 : b ∉ hostOps1_W) (w1 : ∀ w, Pipeline.arrRef spec1 w ≠ b)
    (w2 : ∀ w, Pipeline.arrRef spec2 w ≠ b) (w3 : ∀ w, Pipeline.arrRef spec3 w ≠ b) (w4 : ∀ w, Pipeline.arrRef spec4 w ≠ b)
    (hU : U2 m c b = U1 m c b) : U7 m c b = m (c, b) :=
  (Pipeline.withArrays_of_ne spec4 c _ _ b w4).trans <| (Pipeline.withArrays_of_ne spec3 c _ _ b w3).trans <|
    (Pipeline.withArrays_of_ne spec2 c _ _ b w2).trans <| (Pipeline.withArrays_of_ne spec1 c _ _ b w1).trans <|
    (StableHlo.after_of_writes_sub hostOps1 _ hostOps1_writes h1).trans <| hU.trans <|
    StableHlo.after_of_writes_sub hostOps0 _ hostOps0_writes h0

theorem U7_arg0 : U7 m c main_arg0 = m (c, main_arg0) :=
  U7_rest m c main_arg0 (by decide) (by decide) (by decide) (by decide) (by decide) (by decide)
    ((Pipeline.withArrays_arr spec0 inj0 c _ _ 0).trans (((dat0 (rd (U1 m)) c).arrAt_in 0 rfl _).trans (A_eq0 _ c 0)))
theorem U7_arg1 : U7 m c main_arg1 = m (c, main_arg1) :=
  U7_rest m c main_arg1 (by decide) (by decide) (by decide) (by decide) (by decide) (by decide)
    (Pipeline.withArrays_of_ne spec0 c _ _ main_arg1 (by decide))
theorem U7_arg2 : U7 m c main_arg2 = m (c, main_arg2) :=
  U7_rest m c main_arg2 (by decide) (by decide) (by decide) (by decide) (by decide) (by decide)
    (Pipeline.withArrays_of_ne spec0 c _ _ main_arg2 (by decide))

theorem U8_arg0 : U8 m c main_arg0 = m (c, main_arg0) := (Pipeline.withArrays_of_ne spec5 c _ _ main_arg0 (by decide)).trans (U7_arg0 m c)
theorem U8_arg1 : U8 m c main_arg1 = m (c, main_arg1) := (Pipeline.withArrays_of_ne spec5 c _ _ main_arg1 (by decide)).trans (U7_arg1 m c)
theorem U8_arg2 : U8 m c main_arg2 = m (c, main_arg2) := (Pipeline.withArrays_of_ne spec5 c _ _ main_arg2 (by decide)).trans (U7_arg2 m c)

/-- The padded keys: the keys first, then rows of zeros. -/
theorem U1_v1 (n : Fin 100000) (d : Fin 128) :
    (U1 m c main_v1 : S114688x128.Idx → Elt F .f32) (ix2 ⟨n.val, by omega⟩ d) = (m (c, main_arg1) : S100000x128.Idx → Elt F .f32) (ix2 n d) := by
  have e : U1 m c main_v1 = concatenate S114688x128 0 [⟨S100000x128, (m (c, main_arg1) : S100000x128.Idx → Elt F .f32)⟩,
      ⟨S14688x128, broadcastInDim S14688x128 ![] bcast_S_S14688x128 (constant S_ .f32 0x00000000#32)⟩] concatenates_S100000x128_S14688x128_S114688x128_d0 := by
    after_results
  refine (congrFun e _).trans ?_
  generalize (broadcastInDim S14688x128 ![] bcast_S_S14688x128 (constant S_ .f32 0x00000000#32) : S14688x128.Idx → Elt F .f32) = z
  generalize (m (c, main_arg1) : S100000x128.Idx → Elt F .f32) = y
  have hn : n.val < 100000 := n.isLt
  pointwise

theorem U3_v3 (r : Fin 1024) (g : Fin 896) (l : Fin 128) :
    (U3 m c main_v3 : S1024x896x128.Idx → Elt F .f32) (ix3 r g l) = (U2 m c main_v2 : S1024x114688.Idx → Elt F .f32) (ix2 r ⟨128 * g.val + l.val, by omega⟩) := by
  have e : U3 m c main_v3 = shapeCast S1024x896x128 (U2 m c main_v2 : S1024x114688.Idx → Elt F .f32) shapeCasts_S1024x114688_S1024x896x128 := by
    after_results
    rfl
  refine (congrFun e _).trans ?_
  generalize (U2 m c main_v2 : S1024x114688.Idx → Elt F .f32) = y
  pointwise
  exact congrArg y (congrArg (ix2 r) (Fin.ext (by show g.val * 128 + l.val = 128 * g.val + l.val; omega)))

end Reads

/-! ## The scores -/

/-- The score of a query against a key. -/
def score (q : S1024x128.Idx → EReal) (k : S100000x128.Idx → EReal) (r : Fin 1024) (n : Fin 100000) : EReal := ∑ x : Fin 128, q (ix2 r x) * k (ix2 n x)

/-- The scores with the columns past the last key at the least value. -/
def padded (q : S1024x128.Idx → EReal) (k : S100000x128.Idx → EReal) (r : Fin 1024) (n : ℕ) : EReal :=
  if h : n < 100000 then score q k r ⟨n, h⟩ else ⊥

theorem coords0 : ∀ t : Fin cfg0.N, (grid0.coords t 0).val = t.val := by decide

theorem out0_at (t : Fin cfg0.N) (x0 : Vec Ideal S1024x128 .f32) (x1 : Vec Ideal S2048x128 .f32) (r : Fin 1024) (b : Fin 2048) :
    out0 (F := Ideal) (grid0.coords t) x0 x1 (ix2 r b) = if 2048 * t.val + b.val < 100000 then ∑ x : Fin 128, x0 (ix2 r x) * x1 (ix2 b x) else ⊥ := by
  have hw : (IntOp.addi (Scalar.muli (BitVec.ofNat 32 (grid0.coords t 0).val) 2048#32) (BitVec.ofNat 32 b.val)).toNat = 2048 * t.val + b.val := by
    rw [coords0]
    have := lt0 t; have := b.isLt
    simp only [IntOp.addi, Scalar.muli, IntOp.muli, BitVec.toNat_add, BitVec.toNat_mul, BitVec.toNat_ofNat]
    omega
  have hb : IntOp.cmpi .slt (IntOp.addi (Scalar.muli (BitVec.ofNat 32 (grid0.coords t 0).val) 2048#32) (BitVec.ofNat 32 b.val)) 100000#32
      = BitVec.ofBool (decide (2048 * t.val + b.val < 100000)) := by
    rw [WordCmp.cmpi_slt_of_lt (by rw [hw]; have := lt0 t; have := b.isLt; omega) (by decide), hw]; rfl
  have e : out0 (F := Ideal) (grid0.coords t) x0 x1 (ix2 r b)
      = Scalar.select (IntOp.cmpi .slt (IntOp.addi (Scalar.muli (BitVec.ofNat 32 (grid0.coords t 0).val) 2048#32) (BitVec.ofNat 32 b.val)) 100000#32)
        (∑ x : Fin 128, x0 (ix2 r x) * x1 (ix2 b x)) (Ideal.ofBits .f32 4286578688#32) := by
    unfold out0 k0_pay1
    pointwise
  rw [e, hb, negInf]
  by_cases h : 2048 * t.val + b.val < 100000
  · rw [if_pos h, decide_eq_true h]; rfl
  · rw [if_neg h, decide_eq_false h]; rfl

section Values
variable (m : (ℓ : Loc nD τ sig) → Buf (Elt Ideal) ℓ) (c : Dev nD)

abbrev Qm : S1024x128.Idx → EReal := m (c, main_arg0)
abbrev Km : S100000x128.Idx → EReal := m (c, main_arg1)
abbrev Vm : S100000x128.Idx → EReal := m (c, main_arg2)
/-- The group maxima, the weights and the weighted sums, as the calls leave them. -/
abbrev Gm : S1024x896.Idx → EReal := U4 m c main_v4_0
abbrev Wm : S1024x64.Idx → EReal := U7 m c main_v7_1
abbrev Rm : S1024x128.Idx → EReal := U8 m c main_v8

theorem U2_at (r : Fin 1024) (n : Fin 114688) : (U2 m c main_v2 : S1024x114688.Idx → EReal) (ix2 r n) = padded (Qm m c) (Km m c) r n.val := by
  obtain ⟨t, b, rfl⟩ : ∃ (t : Fin cfg0.N) (b : Fin 2048), n = ⟨2048 * t.val + b.val, by have := lt0 t; omega⟩ :=
    ⟨⟨n.val / 2048, by show n.val / 2048 < 56; omega⟩, ⟨n.val % 2048, by omega⟩, Fin.ext (by show n.val = 2048 * (n.val / 2048) + n.val % 2048; omega)⟩
  refine (congrFun (U2_v2 m c) _).trans ((fin0 (rd (U1 m)) c t r b).trans ((out0_at t _ _ r b).trans ?_))
  by_cases h : 2048 * t.val + b.val < 100000
  · rw [if_pos h, padded, dif_pos h]
    refine Finset.sum_congr rfl fun x _ => congrArg₂ (· * ·) ?_ ?_
    · exact congrFun ((in0_0 (rd (U1 m)) c t).trans (U1_arg0 m c)) _
    · exact (in0_1 (rd (U1 m)) c t b x).trans (U1_v1 m c ⟨2048 * t.val + b.val, h⟩ x)
  · rw [if_neg h, padded, dif_neg h]

/-! ## The groups -/

theorem U4_at (r : Fin 1024) (g : Fin 896) :
    Pick (fun l : Fin 128 => padded (Qm m c) (Km m c) r (128 * g.val + l.val)) (fun l => 128 * g.val + l.val)
      (Gm m c (ix2 r g)) ((U4 m c main_v4_1 : S1024x896.Idx → BitVec 32) (ix2 r g)).toNat := by
  obtain ⟨t, b, rfl⟩ : ∃ (t : Fin cfg1.N) (b : Fin 16), r = ⟨16 * t.val + b.val, by have := lt1 t; omega⟩ :=
    ⟨⟨r.val / 16, by show r.val / 16 < 64; omega⟩, ⟨r.val % 16, by omega⟩, Fin.ext (by show r.val = 16 * (r.val / 16) + r.val % 16; omega)⟩
  have e1 := (congrFun (U4_v4_0 m c) _).trans (fin1_1 (rd (U3 m)) c t b g)
  have e2 := (congrFun (U4_v4_1 m c) _).trans (fin1_2 (rd (U3 m)) c t b g)
  have hf : (fun l : Fin 128 => (blkIn (rd (U3 m)) cfg1 c 0 t : S16x896x128.Idx → EReal) (ix3 b g l))
      = fun l : Fin 128 => padded (Qm m c) (Km m c) ⟨16 * t.val + b.val, by have := lt1 t; omega⟩ (128 * g.val + l.val) :=
    funext fun l => (in1_0 (rd (U3 m)) c t b g l).trans ((U3_v3 m c _ g l).trans (U2_at m c _ _))
  have h := pick1 (blkIn (rd (U3 m)) cfg1 c 0 t) b g
  rw [← e1, ← e2] at h
  rw [← hf]
  exact h

theorem group_at (r : Fin 1024) (g : Fin 896) :
    128 * g.val ≤ ((U4 m c main_v4_1 : S1024x896.Idx → BitVec 32) (ix2 r g)).toNat
      ∧ ((U4 m c main_v4_1 : S1024x896.Idx → BitVec 32) (ix2 r g)).toNat < 128 * g.val + 128 := by
  obtain ⟨l, -, h⟩ := (U4_at m c r g).hit
  have := l.isLt
  omega

theorem U5_at (r : Fin 1024) (hs : ∃ a : Fin 64 → Fin 896, Function.Injective a ∧ ∀ k, Gm m c (ix2 r (a k)) ≠ ⊥) :
    ∃ p : ℕ → Fin 896, IsTop (fun g => Gm m c (ix2 r g))
      (fun g => ((U4 m c main_v4_1 : S1024x896.Idx → BitVec 32) (ix2 r g)).toNat) 64 p
    ∧ ∀ i : Fin 64, Gm m c (ix2 r (p i.val)) ≠ ⊥
      ∧ (U5 m c main_v5 : S1024x64.Idx → BitVec 32) (ix2 r i) = BitVec.ofNat 32 (p i.val).val := by
  have e := (U5_v5 m c).trans (fin2 (rd (U4 m)) c)
  obtain ⟨p, hp, hv⟩ := sel2 (U4 m c main_v4_0) (U4 m c main_v4_1) r (group_at m c r) hs
  exact ⟨p, hp, fun i => ⟨(hv i).1, (congrFun e _).trans (hv i).2⟩⟩

/-- The same with nothing assumed of the maxima. -/
theorem U5_any (r : Fin 1024) : ∃ p : ℕ → Fin 896,
    (∀ i : Fin 64, (U5 m c main_v5 : S1024x64.Idx → BitVec 32) (ix2 r i) = BitVec.ofNat 32 (p i.val).val)
    ∧ ((∃ i : Fin 64, (p i.val).val = 0) ∨ ∃ a : Fin 64 → Fin 896, Function.Injective a ∧ ∀ k, Gm m c (ix2 r (a k)) ≠ ⊥) := by
  have e := (U5_v5 m c).trans (fin2 (rd (U4 m)) c)
  obtain ⟨p, hv, hp⟩ := sel2_any (U4 m c main_v4_0) (U4 m c main_v4_1) r (group_at m c r)
  exact ⟨p, fun i => (congrFun e _).trans (hv i), hp⟩

/-- A row with no score at minus infinity has sixty-four maxima above it. -/
theorem maxima (r : Fin 1024) (hs : ∀ n, score (Qm m c) (Km m c) r n ≠ ⊥) :
    ∃ a : Fin 64 → Fin 896, Function.Injective a ∧ ∀ k, Gm m c (ix2 r (a k)) ≠ ⊥ :=
  ⟨fun k => ⟨k.val, by omega⟩, fun a b h => Fin.ext (Fin.mk.inj h), fun k h => by
    have := (U4_at m c r ⟨k.val, by omega⟩).top 0
    have this := le_bot_iff.1 (this.trans (le_of_eq h))
    have hk : 128 * k.val + (0 : Fin 128).val < 100000 := by have := k.isLt; show 128 * k.val + 0 < 100000; omega
    rw [padded, dif_pos hk] at this
    exact hs _ this⟩

theorem grp_ofNat (g : Fin 896) : grp (BitVec.ofNat 32 g.val) = g := by
  apply Fin.ext
  show min (BitVec.ofNat 32 g.val).toNat 895 = g.val
  rw [BitVec.toNat_ofNat]
  omega

theorem U6_0 (r : Fin 1024) (k : Fin 64) (l : Fin 128) (g : Fin 896) (hg : (U5 m c main_v5 : S1024x64.Idx → BitVec 32) (ix2 r k) = BitVec.ofNat 32 g.val) :
    (U6 m c main_v6_0 : S1024x64x128.Idx → EReal) (ix3 r k l) = padded (Qm m c) (Km m c) r (128 * g.val + l.val) := by
  obtain ⟨t, b, rfl⟩ : ∃ (t : Fin cfg3.N) (b : Fin 8), r = ⟨8 * t.val + b.val, by have := lt3 t; omega⟩ :=
    ⟨⟨r.val / 8, by show r.val / 8 < 128; omega⟩, ⟨r.val % 8, by omega⟩, Fin.ext (by show r.val = 8 * (r.val / 8) + r.val % 8; omega)⟩
  refine (congrFun (U6_v6_0 m c) _).trans ((fin3_2 (rd (U5 m)) c t b k l).trans ?_)
  have hw : (blkIn (rd (U5 m)) cfg3 c 0 t : S8x64.Idx → BitVec 32) (ix2 b k) = BitVec.ofNat 32 g.val := (in3_0 (rd (U5 m)) c t b k).trans hg
  show (blkIn (rd (U5 m)) cfg3 c 1 t : S8x896x128.Idx → EReal) (ix3 b (grp ((blkIn (rd (U5 m)) cfg3 c 0 t : S8x64.Idx → BitVec 32) (ix2 b k))) l) = _
  rw [hw, grp_ofNat]
  exact (in3_1 (rd (U5 m)) c t b g l).trans ((congrFun (U5_v3 m c) _).trans ((U3_v3 m c _ g l).trans (U2_at m c _ _)))

theorem U6_1 (r : Fin 1024) (k : Fin 64) (l : Fin 128) (g : Fin 896) (hg : (U5 m c main_v5 : S1024x64.Idx → BitVec 32) (ix2 r k) = BitVec.ofNat 32 g.val) :
    (U6 m c main_v6_1 : S1024x64x128.Idx → BitVec 32) (ix3 r k l) = BitVec.ofNat 32 (128 * g.val + l.val) := by
  obtain ⟨t, b, rfl⟩ : ∃ (t : Fin cfg3.N) (b : Fin 8), r = ⟨8 * t.val + b.val, by have := lt3 t; omega⟩ :=
    ⟨⟨r.val / 8, by show r.val / 8 < 128; omega⟩, ⟨r.val % 8, by omega⟩, Fin.ext (by show r.val = 8 * (r.val / 8) + r.val % 8; omega)⟩
  refine (congrFun (U6_v6_1 m c) _).trans ((fin3_3 (rd (U5 m)) c t b k l).trans ?_)
  have hw : (blkIn (rd (U5 m)) cfg3 c 0 t : S8x64.Idx → BitVec 32) (ix2 b k) = BitVec.ofNat 32 g.val := (in3_0 (rd (U5 m)) c t b k).trans hg
  show k3_pay2 (F := Ideal) ((blkIn (rd (U5 m)) cfg3 c 0 t : S8x64.Idx → BitVec 32) (ix2 b k)) (ix3 0 0 l) = _
  rw [hw]
  have e : k3_pay2 (F := Ideal) (BitVec.ofNat 32 g.val) (ix3 0 0 l) = IntOp.addi (Scalar.muli (BitVec.ofNat 32 g.val) 128#32) (BitVec.ofNat 32 l.val) := by
    unfold k3_pay2
    pointwise
  rw [e]
  apply BitVec.eq_of_toNat_eq
  simp only [IntOp.addi, Scalar.muli, IntOp.muli, BitVec.toNat_add, BitVec.toNat_mul, BitVec.toNat_ofNat]
  omega

theorem words3 : ∀ (t : Fin cfg3.N) (i : S8x64.Idx), ((blkIn (rd (U5 m)) cfg3 c 0 t : S8x64.Idx → BitVec 32) i).toNat < 896 := by
  intro t i
  rw [eq_ix2 i]
  obtain ⟨p, hv, -⟩ := U5_any m c ⟨8 * t.val + (i 0).val, by have := lt3 t; have : (i 0).val < 8 := (i 0).isLt; omega⟩
  have e := (in3_0 (rd (U5 m)) c t (i 0) (i 1)).trans (hv (i 1))
  rw [e, BitVec.toNat_ofNat]
  have := (p (i 1).val).isLt
  omega

/-! ## The entries -/

/-- The softmax of a row's selected values, shifted by the first of them. -/
def soft (s : Fin 64 → EReal) (i : Fin 64) : EReal := Ideal.div (Ideal.exp (s i - s 0)) (∑ x : Fin 64, Ideal.exp (s x - s 0))

theorem out4b_at (x0 : Vec Ideal S256x64x128 .f32) (x1 : Vec Ideal S256x64x128 .i32) (r : Fin 256) (i : Fin 64) :
    out4b (F := Ideal) x0 x1 (ix2 r i) = soft (fun j => (fold4 (F := Ideal) x0 x1).2.1 (ix2 r j)) i := by
  unfold out4b soft
  generalize (fold4 (F := Ideal) x0 x1).2.1 = y
  unfold k4_pay10
  pointwise

/-- Each row's results name the first keys in order of score, and weigh them by the softmax of their scores. -/
theorem chosen (r : Fin 1024) (hs : ∃ a : Fin 64 → Fin 896, Function.Injective a ∧ ∀ k, Gm m c (ix2 r (a k)) ≠ ⊥) :
    ∃ n : ℕ → Fin 100000, IsTop (score (Qm m c) (Km m c) r) Fin.val 64 n
    ∧ (∀ i : Fin 64, (U7 m c main_v7_0 : S1024x64.Idx → BitVec 32) (ix2 r i) = BitVec.ofNat 32 (n i.val).val)
    ∧ ∀ i : Fin 64, Wm m c (ix2 r i) = soft (fun j => score (Qm m c) (Km m c) r (n j.val)) i := by
  obtain ⟨p, hp, hv⟩ := U5_at m c r hs
  have h0 := fun k l => U6_0 m c r k l (p k.val) (hv k).2
  have h1 := fun k l => U6_1 m c r k l (p k.val) (hv k).2
  have pos_inj : Function.Injective fun x : Fin 896 × Fin 128 => 128 * x.1.val + x.2.val := by
    rintro ⟨a, b⟩ ⟨a', b'⟩ h
    have h : 128 * a.val + b.val = 128 * a'.val + b'.val := h
    exact Prod.ext (Fin.ext (by show a.val = a'.val; omega)) (Fin.ext (by show b.val = b'.val; omega))
  obtain ⟨t, b, hr⟩ : ∃ (t : Fin cfg4.N) (b : Fin 256), r = ⟨256 * t.val + b.val, by have := lt4 t; omega⟩ :=
    ⟨⟨r.val / 256, by show r.val / 256 < 4; omega⟩, ⟨r.val % 256, by omega⟩, Fin.ext (by show r.val = 256 * (r.val / 256) + r.val % 256; omega)⟩
  have e0 : ∀ k l, (blkIn (rd (U6 m)) cfg4 c 0 t : S256x64x128.Idx → EReal) (ix3 b k l) = padded (Qm m c) (Km m c) r (128 * (p k.val).val + l.val) :=
    fun k l => (in4_0 (rd (U6 m)) c t b k l).trans (by rw [← hr]; exact h0 k l)
  have e1 : ∀ k l, ((blkIn (rd (U6 m)) cfg4 c 1 t : S256x64x128.Idx → BitVec 32) (ix3 b k l)) = BitVec.ofNat 32 (128 * (p k.val).val + l.val) :=
    fun k l => (in4_1 (rd (U6 m)) c t b k l).trans (by rw [← hr]; exact h1 k l)
  have e1' : ∀ k l, ((blkIn (rd (U6 m)) cfg4 c 1 t : S256x64x128.Idx → BitVec 32) (ix3 b k l)).toNat = 128 * (p k.val).val + l.val := by
    intro k l
    rw [e1, BitVec.toNat_ofNat]
    omega
  have r0 := fun k => (congrFun (U7_v7_0 m c) (ix2 r k)).trans ((congrArg _ (congrArg (fun r => ix2 r k) hr)).trans (fin4_2 (rd (U6 m)) c t b k))
  have r1 := fun k => (congrFun (U7_v7_1 m c) (ix2 r k)).trans ((congrArg _ (congrArg (fun r => ix2 r k) hr)).trans (fin4_3 (rd (U6 m)) c t b k))
  generalize (blkIn (rd (U6 m)) cfg4 c 0 t : S256x64x128.Idx → EReal) = x0 at e0 r0 r1
  generalize (blkIn (rd (U6 m)) cfg4 c 1 t : S256x64x128.Idx → BitVec 32) = x1 at e1 e1' r0 r1
  obtain ⟨q, hq, hqv⟩ := sel4 x0 x1 b (fun x => by rw [e1']; have := (p x.1.val).isLt; omega)
    (by
      intro x y h
      have h : (x1 (ix3 b x.1 x.2)).toNat = (x1 (ix3 b y.1 y.2)).toNat := h
      rw [e1', e1'] at h
      have h' := pos_inj (a₁ := (p x.1.val, x.2)) (a₂ := (p y.1.val, y.2)) h
      simp only [Prod.mk.injEq] at h'
      exact Prod.ext (Fin.ext (hp.ne x.1.isLt y.1.isLt h'.1)) h'.2)
    (by
      -- the first entries of the selected groups
      have hG : ∀ k : Fin 64, ∃ l : Fin 128, padded (Qm m c) (Km m c) r (128 * (p k.val).val + l.val) ≠ ⊥ := by
        intro k
        obtain ⟨l, h, -⟩ := (U4_at m c r (p k.val)).hit
        exact ⟨l, fun e => (hv k).1 (h.symm.trans e)⟩
      choose l hl using hG
      exact ⟨fun k => (k, l k), fun a b h => (Prod.mk.inj h).1, fun k => by rw [e0]; exact hl k⟩)
  simp only [e0, e1'] at hq
  have hq' := isTop_of_groups (f := fun x : Fin 896 × Fin 128 => padded (Qm m c) (Km m c) r (128 * x.1.val + x.2.val))
    (pos := fun x => 128 * x.1.val + x.2.val) (U4_at m c r) hp pos_inj hq
  have hlt : ∀ i : Fin 64, 128 * (p (q i.val).1.val).val + (q i.val).2.val < 100000 := by
    intro i
    by_contra h
    have := (hqv i).1
    rw [e0, padded, dif_neg h] at this
    exact this rfl
  let n : ℕ → Fin 100000 := fun i => if h : 128 * (p (q i).1.val).val + (q i).2.val < 100000 then ⟨_, h⟩ else 0
  have hn : ∀ i : Fin 64, (n i.val).val = 128 * (p (q i.val).1.val).val + (q i.val).2.val := fun i => by
    simp only [n, dif_pos (hlt i)]
  have hsc : ∀ i : Fin 64, x0 (ix3 b (q i.val).1 (q i.val).2) = score (Qm m c) (Km m c) r (n i.val) := fun i => by
    rw [e0, padded, dif_pos (hlt i)]
    exact congrArg _ (Fin.ext (hn i).symm)
  refine ⟨n, ?_, fun i => ?_, fun i => ?_⟩
  · have h := hq'.restrict (fun k : Fin 100000 => ((⟨k.val / 128, by omega⟩, ⟨k.val % 128, by omega⟩) : Fin 896 × Fin 128)) n
      (fun i hi => by
        have := hn ⟨i, hi⟩
        simp only at this
        refine Prod.ext (Fin.ext ?_) (Fin.ext ?_)
        · show (n i).val / 128 = (p (q i).1.val).val
          omega
        · show (n i).val % 128 = (q i).2.val
          omega)
      (fun a b h => by
        have h1 : a.val / 128 = b.val / 128 := congrArg (fun x : Fin 896 × Fin 128 => x.1.val) h
        have h2 : a.val % 128 = b.val % 128 := congrArg (fun x : Fin 896 × Fin 128 => x.2.val) h
        exact Fin.ext (by omega))
    have hd : ∀ k : Fin 100000, 128 * (k.val / 128) + k.val % 128 = k.val := fun k => Nat.div_add_mod k.val 128
    simp only [hd] at h
    have hf : (fun k : Fin 100000 => padded (Qm m c) (Km m c) r k.val) = score (Qm m c) (Km m c) r := funext fun k => by
      rw [padded, dif_pos k.isLt]
    rw [hf] at h
    exact h
  · rw [r0, (hqv i).2.1, e1, hn]
  · refine ((r1 i).trans (out4b_at _ _ _ _)).trans ?_
    exact congrArg (fun s => soft s i) (funext fun j => ((hqv j).2.2).trans (hsc j))

/-- With nothing assumed of the scores: each row's results name keys. -/
theorem index_lt (r : Fin 1024) (i : Fin 64) : ((U7 m c main_v7_0 : S1024x64.Idx → BitVec 32) (ix2 r i)).toNat < 100000 := by
  obtain ⟨p, hv, hp⟩ := U5_any m c r
  rcases hp with ⟨z, hz⟩ | hs
  · have h0 := fun k l => U6_0 m c r k l (p k.val) (hv k)
    have h1 := fun k l => U6_1 m c r k l (p k.val) (hv k)
    obtain ⟨t, b, hr⟩ : ∃ (t : Fin cfg4.N) (b : Fin 256), r = ⟨256 * t.val + b.val, by have := lt4 t; omega⟩ :=
      ⟨⟨r.val / 256, by show r.val / 256 < 4; omega⟩, ⟨r.val % 256, by omega⟩, Fin.ext (by show r.val = 256 * (r.val / 256) + r.val % 256; omega)⟩
    have e0 : ∀ k l, (blkIn (rd (U6 m)) cfg4 c 0 t : S256x64x128.Idx → EReal) (ix3 b k l) = padded (Qm m c) (Km m c) r (128 * (p k.val).val + l.val) :=
      fun k l => (in4_0 (rd (U6 m)) c t b k l).trans (by rw [← hr]; exact h0 k l)
    have e1 : ∀ k l, ((blkIn (rd (U6 m)) cfg4 c 1 t : S256x64x128.Idx → BitVec 32) (ix3 b k l)).toNat = 128 * (p k.val).val + l.val := by
      intro k l
      have e : (blkIn (rd (U6 m)) cfg4 c 1 t : S256x64x128.Idx → BitVec 32) (ix3 b k l) = BitVec.ofNat 32 (128 * (p k.val).val + l.val) :=
        (in4_1 (rd (U6 m)) c t b k l).trans (by rw [← hr]; exact h1 k l)
      rw [e, BitVec.toNat_ofNat]
      omega
    have r0 := fun k => (congrFun (U7_v7_0 m c) (ix2 r k)).trans ((congrArg _ (congrArg (fun r => ix2 r k) hr)).trans (fin4_2 (rd (U6 m)) c t b k))
    generalize (blkIn (rd (U6 m)) cfg4 c 0 t : S256x64x128.Idx → EReal) = x0 at e0 r0
    generalize (blkIn (rd (U6 m)) cfg4 c 1 t : S256x64x128.Idx → BitVec 32) = x1 at e1 r0
    obtain ⟨q, hq⟩ := sel4_any x0 x1 b (fun x => by rw [e1]; have := (p x.1.val).isLt; omega)
    rw [r0, (hq i).1]
    rcases (hq i).2 with h | h
    · rw [e0] at h
      rw [e1]
      by_contra hn
      exact h (by rw [padded, dif_neg hn])
    · have := h (z, 0)
      simp only [e1, hz] at this
      rw [e1]
      have h0 : (0 : Fin 128).val = 0 := rfl
      omega
  · obtain ⟨n, -, hn, -⟩ := chosen m c r hs
    rw [hn, BitVec.toNat_ofNat]
    have := (n i.val).isLt
    omega

theorem words5 : ∀ (t : Fin cfg5.N) (i : S8x64.Idx), ((blkIn (rd (U7 m)) cfg5 c 0 t : S8x64.Idx → BitVec 32) i).toNat < 100000 := by
  intro t i
  rw [eq_ix2 i, in5_0 (rd (U7 m)) c t (i 0) (i 1)]
  exact index_lt m c _ _

theorem wstep_at (x0 : Vec Ideal S8x64 .i32) (x1 : Vec Ideal S8x64 .f32) (x5 : Vec Ideal S100000x128 .f32) (i : Fin 64) (a : FVec Ideal S8x128 .f32)
    (r : Fin 8) (b : Fin 128) :
    wstep (F := Ideal) x0 x1 x5 i a (ix2 r b) = a (ix2 r b) + x1 (ix2 r i) * vrow x5 (x0 (ix2 r i)) (ix2 0 b) := by
  unfold wstep k5_pay2 k5_pay3 k5_pay4 k5_pay5 k5_pay6 k5_pay7 k5_pay8
  pointwise
  have one : ∀ (j : Fin 8) (A : EReal), Scalar.select (IntOp.cmpi .eq (BitVec.ofNat 32 r.val) (BitVec.ofNat 32 j.val)) A 0 = if r = j then A else 0 := by
    intro j A
    unfold Scalar.select IntOp.cmpi
    by_cases h : r = j
    · subst h; simp
    · have : (BitVec.ofNat 32 r.val == BitVec.ofNat 32 j.val) = false := by
        rw [beq_eq_false_iff_ne]
        intro e
        have := congrArg BitVec.toNat e
        rw [BitVec.toNat_ofNat, BitVec.toNat_ofNat] at this
        exact h (Fin.ext (by omega))
      simp only [this, if_neg h]; rfl
  have h0 := one 0; have h1 := one 1; have h2 := one 2; have h3 := one 3; have h4 := one 4; have h5 := one 5; have h6 := one 6; have h7 := one 7
  simp only [show ((0 : Fin 8).val) = 0 from rfl, show ((1 : Fin 8).val) = 1 from rfl, show ((2 : Fin 8).val) = 2 from rfl, show ((3 : Fin 8).val) = 3 from rfl,
    show ((4 : Fin 8).val) = 4 from rfl, show ((5 : Fin 8).val) = 5 from rfl, show ((6 : Fin 8).val) = 6 from rfl, show ((7 : Fin 8).val) = 7 from rfl] at h0 h1 h2 h3 h4 h5 h6 h7
  rw [h0, h1, h2, h3, h4, h5, h6, h7]
  fin_cases r <;> simp

theorem out5_at (x0 : Vec Ideal S8x64 .i32) (x1 : Vec Ideal S8x64 .f32) (x5 : Vec Ideal S100000x128 .f32) (r : Fin 8) (b : Fin 128) :
    out5 (F := Ideal) x0 x1 x5 (ix2 r b) = ∑ i : Fin 64, x1 (ix2 r i) * vrow x5 (x0 (ix2 r i)) (ix2 0 b) := by
  have key : ∀ k ≤ 64, wst (F := Ideal) x0 x1 x5 k (ix2 r b)
      = ∑ i ∈ Finset.range k, if h : i < 64 then x1 (ix2 r ⟨i, h⟩) * vrow x5 (x0 (ix2 r ⟨i, h⟩)) (ix2 0 b) else 0 := by
    intro k
    induction k with
    | zero =>
      intro _
      show k5_pay1 (F := Ideal) (ix2 r b) = _
      unfold k5_pay1
      pointwise
      simp
    | succ k ih =>
      intro hk
      rw [Finset.sum_range_succ, ← ih (by omega), dif_pos (show k < 64 from hk)]
      rw [wst, dif_pos (show k < 64 from hk)]
      exact wstep_at x0 x1 x5 ⟨k, hk⟩ _ r b
  rw [out5, key 64 le_rfl, Finset.sum_range]
  exact Finset.sum_congr rfl fun i _ => dif_pos i.isLt

/-- The weighted sum of the selected values. -/
theorem weighted (r : Fin 1024) (d : Fin 128) (n : ℕ → Fin 100000)
    (hn : ∀ i : Fin 64, (U7 m c main_v7_0 : S1024x64.Idx → BitVec 32) (ix2 r i) = BitVec.ofNat 32 (n i.val).val) :
    Rm m c (ix2 r d)
      = ∑ i : Fin 64, Wm m c (ix2 r i) * Vm m c (ix2 (n i.val) d) := by
  obtain ⟨t, b, rfl⟩ : ∃ (t : Fin cfg5.N) (b : Fin 8), r = ⟨8 * t.val + b.val, by have := lt5 t; omega⟩ :=
    ⟨⟨r.val / 8, by show r.val / 8 < 128; omega⟩, ⟨r.val % 8, by omega⟩, Fin.ext (by show r.val = 8 * (r.val / 8) + r.val % 8; omega)⟩
  refine (congrFun (U8_v8 m c) _).trans ((fin5 (rd (U7 m)) c t b d).trans ((out5_at _ _ _ b d).trans ?_))
  refine Finset.sum_congr rfl fun i _ => congrArg₂ (· * ·) (in5_1 (rd (U7 m)) c t b i) ?_
  have e := (in5_0 (rd (U7 m)) c t b i).trans (hn i)
  rw [e]
  have e2 : (⟨min (BitVec.ofNat 32 (n i.val).val).toNat 99999, by omega⟩ : Fin 100000) = n i.val :=
    Fin.ext (by show min (BitVec.ofNat 32 (n i.val).val).toNat 99999 = (n i.val).val; rw [BitVec.toNat_ofNat]; omega)
  show (U7 m c main_arg2 : S100000x128.Idx → EReal) (ix2 (⟨min (BitVec.ofNat 32 (n i.val).val).toNat 99999, by omega⟩ : Fin 100000) d) = _
  rw [e2]
  exact congrFun (U7_arg2 m c) _

end Values

end Cert.KernelIdeal.Gen

end

end
-- ==== Proof.Reference.lean ====
/- The reference's own operations, over the extended reals, read at an index. -/
module

public import proofs.«01_k».proof.Proof.Gen.ReferenceIdeal.Run
public import proofs.«01_k».proof.Proof.TopMath
public import Idealize.ShloMosaic.Lib.Pointwise
public import Idealize.ShloMosaic.Lib.SortFacts

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.Top

/-- Every query's inner product with every key. -/
def scores (q : FVec Ideal S1024x128 .f32) (k : FVec Ideal S100000x128 .f32) : FVec Ideal S1024x100000 .f32 :=
  Host.dotGeneral dot_S1024x128_S128x100000_S1024x100000_1_0_0_1_n_n none q (transpose S128x100000 [1, 0] k transposes_S100000x128_S128x100000_1_0)

/-- Each row's exponentials, shifted by the row's largest entry. -/
def shifted (x : FVec Ideal S1024x64 .f32) : FVec Ideal S1024x64 .f32 :=
  Host.exp (subf x (broadcastInDim S1024x64 ![0, 1] bcast_S1024x1_S1024x64_0_1 (broadcastInDim S1024x1 ![0] bcast_S1024_S1024x1_0
    (maximumf (broadcastInDim S1024 ![] bcast_S_S1024 (constant S_ .f32 0xFF800000#32)) (Host.reduce FloatOps.maximumf x (constant S_ .f32 0xFF800000#32) reducesTo_S1024x64_S1024_d1 h_S_)))))

/-- The exponentials over their row's sum. -/
def softmax (x : FVec Ideal S1024x64 .f32) : FVec Ideal S1024x64 .f32 :=
  Host.divf (shifted x) (broadcastInDim S1024x64 ![0, 1] bcast_S1024x1_S1024x64_0_1 (broadcastInDim S1024x1 ![0] bcast_S1024_S1024x1_0
    (Host.reduceAdd (shifted x) (constant S_ .f32 0x00000000#32) reducesTo_S1024x64_S1024_d1 h_S_)))

/-- The indices with a negative one counted from the end. -/
def wrapped (I : IVec S1024x64 32) : IVec S1024x64x1 32 :=
  broadcastInDim S1024x64x1 ![0, 1] bcast_S1024x64_S1024x64x1_0_1
    (select (cmpi .slt I (broadcastInDim S1024x64 ![] bcast_S_S1024x64 (constantI S_ 32 0#32))) (addi I (broadcastInDim S1024x64 ![] bcast_S_S1024x64 (constantI S_ 32 100000#32))) I)

/-- Whether an index is one of a row. -/
def inside (I : IVec S1024x64 32) : IVec S1024x64 1 :=
  Host.reduce IntOp.andi (andi (cmpi .sge (wrapped I) (broadcastInDim S1024x64x1 ![] bcast_S_S1024x64x1 (constantI S_ 32 0#32)))
    (cmpi .sle (wrapped I) (broadcastInDim S1024x64x1 ![0, 1, 2] bcast_S1x1x1_S1024x64x1_0_1_2 (broadcastInDim S1x1x1 ![2] bcast_S1_S1x1x1_2 (constantI S1 32 99999#32)))))
    (constantI S_ 1 1#1) reducesTo_S1024x64x1_S1024x64_d2 h_S_

/-- The rows of `v` that the indices name. -/
def taken (v : FVec Ideal S100000x128 .f32) (I : IVec S1024x64 32) : FVec Ideal S1024x64x128 .f32 :=
  select (broadcastInDim S1024x64x128 ![0, 1] bcast_S1024x64_S1024x64x128_0_1 (inside I))
    (Host.gather gather_S100000x128_S1024x64x1_S1024x64x128_2_0_n_n_0_2_1128 v (wrapped I))
    (broadcastInDim S1024x64x128 ![] bcast_S_S1024x64x128 (constant S_ .f32 0x7FC00000#32))

/-- The taken rows, weighted and summed. -/
def combined (y : FVec Ideal S1024x64x128 .f32) (w : FVec Ideal S1024x64 .f32) : FVec Ideal S1024x128 .f32 :=
  Host.reduceAdd (mulf y (broadcastInDim S1024x64x128 ![0, 1, 2] bcast_S1024x64x1_S1024x64x128_0_1_2 (broadcastInDim S1024x64x1 ![0, 1] bcast_S1024x64_S1024x64x1_0_1 w)))
    (constant S_ .f32 0x00000000#32) reducesTo_S1024x64x128_S1024x128_d1 h_S_

/-- The first sixty-four of each row, larger first, and where they stand. -/
def top (x : FVec Ideal S1024x100000 .f32) : FVec Ideal S1024x64 .f32 × IVec S1024x64 32 :=
  Host.topK S1024x64 1 (FloatOps.cmpfTotal .gt) x sliceFits_S1024x100000_S1024x64

theorem scores_at (q : FVec Ideal S1024x128 .f32) (k : FVec Ideal S100000x128 .f32) (r : Fin 1024) (n : Fin 100000) :
    scores q k (ix2 r n) = ∑ x : Fin 128, (q (ix2 r x) : EReal) * (k (ix2 n x) : EReal) := by
  unfold scores
  pointwise

/-- A row whose first entry is its largest is shifted by that entry. -/
theorem shifted_at (x : FVec Ideal S1024x64 .f32) (r : Fin 1024) (h : ∀ j : Fin 64, (x (ix2 r j) : EReal) ≤ x (ix2 r 0)) (i : Fin 64) :
    shifted x (ix2 r i) = Ideal.exp ((x (ix2 r i) : EReal) - x (ix2 r 0)) := by
  unfold shifted
  pointwise
  have bot : Ideal.ofBits .f32 4286578688#32 = ⊥ := by simp [Ideal.ofBits, Ideal.ieee]
  have e : max (⊥ : EReal) (Finset.fold max (⊥ : EReal) (fun k : Fin 64 => (x (ix2 r k) : EReal)) Finset.univ) = x (ix2 r 0) := by
    refine le_antisymm (max_le bot_le (Finset.fold_max_le _ |>.mpr ⟨bot_le, fun j _ => h j⟩)) (le_trans ?_ (le_max_right _ _))
    exact Finset.le_fold_max _ |>.mpr (Or.inr ⟨0, Finset.mem_univ _, le_rfl⟩)
  rw [bot]
  exact congrArg (fun y : EReal => Ideal.exp ((x (ix2 r i) : EReal) - y)) e

theorem softmax_at (x : FVec Ideal S1024x64 .f32) (r : Fin 1024) (h : ∀ j : Fin 64, (x (ix2 r j) : EReal) ≤ x (ix2 r 0)) (i : Fin 64) :
    softmax x (ix2 r i) = Ideal.div (Ideal.exp ((x (ix2 r i) : EReal) - x (ix2 r 0))) (∑ j : Fin 64, Ideal.exp ((x (ix2 r j) : EReal) - x (ix2 r 0))) := by
  have e : softmax x (ix2 r i) = Ideal.div (shifted x (ix2 r i)) (∑ j : Fin 64, (shifted x (ix2 r j) : EReal)) := by
    unfold softmax
    pointwise
  rw [e]
  exact congrArg₂ Ideal.div (shifted_at x r h i) (Finset.sum_congr rfl fun j _ => shifted_at x r h j)

/-- A row's number as a signed word. -/
theorem word_toInt (n : Fin 100000) : (BitVec.ofNat 32 n.val).toInt = (n.val : ℤ) := by
  have hn := n.isLt
  rw [BitVec.toInt_eq_toNat_of_lt (by rw [BitVec.toNat_ofNat]; omega), BitVec.toNat_ofNat, Nat.mod_eq_of_lt (by omega)]

section Take
variable (I : IVec S1024x64 32) (r : Fin 1024) (i : Fin 64) (n : Fin 100000) (h : I (ix2 r i) = BitVec.ofNat 32 n.val)
include h

/-- An index that is a row's stands as it is. -/
theorem wrapped_at (j : Fin 1) : wrapped I (ix3 r i j) = BitVec.ofNat 32 n.val := by
  unfold wrapped
  pointwise
  rw [h]
  have e : IntOp.cmpi CmpIPredicate.slt (BitVec.ofNat 32 n.val) 0#32 = 0#1 := by
    show BitVec.ofBool (decide ((BitVec.ofNat 32 n.val).toInt < (0#32).toInt)) = 0#1
    rw [word_toInt, decide_eq_false (by show ¬((n.val : ℤ) < 0); omega)]
    rfl
  rw [e]
  rfl

theorem inside_at : inside I (ix2 r i) = 1#1 := by
  unfold inside
  pointwise
  have hn := n.isLt
  have lo : IntOp.cmpi CmpIPredicate.sge (BitVec.ofNat 32 n.val) 0#32 = 1#1 := by
    show BitVec.ofBool (decide ((0#32).toInt ≤ (BitVec.ofNat 32 n.val).toInt)) = 1#1
    rw [word_toInt, decide_eq_true (by show (0 : ℤ) ≤ n.val; omega)]
    rfl
  have hi : IntOp.cmpi CmpIPredicate.sle (BitVec.ofNat 32 n.val) 99999#32 = 1#1 := by
    show BitVec.ofBool (decide ((BitVec.ofNat 32 n.val).toInt ≤ (99999#32).toInt)) = 1#1
    rw [word_toInt, decide_eq_true (by show (n.val : ℤ) ≤ (99999#32).toInt; rw [show (99999#32).toInt = 99999 by decide]; omega)]
    rfl
  simp only [wrapped_at I r i n h, lo, hi]
  rfl

theorem gather_at (v : FVec Ideal S100000x128 .f32) (w : IVec S1024x64x1 32) (hw : w (ix3 r i 0) = BitVec.ofNat 32 n.val) (d : Fin 128) :
    Host.gather gather_S100000x128_S1024x64x1_S1024x64x128_2_0_n_n_0_2_1128 v w (ix3 r i d) = v (ix2 n d) := by
  unfold Host.gather
  congr 1
  funext a
  refine Fin.ext ?_
  show GatherDims.start _ _ _ a + GatherDims.batchCoord _ _ a + GatherDims.offCoord _ _ a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ GatherDims.startIndexMap gather_S100000x128_S1024x64x1_S1024x64x128_2_0_n_n_0_2_1128 from List.mem_singleton.mpr rfl)]
    have e : GatherDims.siIdx gather_S100000x128_S1024x64x1_S1024x64x128_2_0_n_n_0_2_1128 (ix3 r i d)
        ⟨List.idxOf (0 : Fin 2) (GatherDims.startIndexMap gather_S100000x128_S1024x64x1_S1024x64x128_2_0_n_n_0_2_1128),
          List.idxOf_lt_length_iff.2 (List.mem_singleton.mpr rfl)⟩ = ix3 r i 0 := by
      funext b
      refine Fin.ext ?_
      match b with
      | ⟨0, _⟩ => rfl
      | ⟨1, _⟩ => rfl
      | ⟨2, _⟩ => rfl
    rw [e, hw, word_toInt]
    have hn := n.isLt
    show min ((n.val : ℤ).toNat) (100000 - 1) + 0 + 0 = n.val
    omega
  · unfold GatherDims.start
    rw [dif_neg (show ¬(1 : Fin 2) ∈ GatherDims.startIndexMap gather_S100000x128_S1024x64x1_S1024x64x128_2_0_n_n_0_2_1128 from by decide)]
    unfold GatherDims.offCoord
    rw [dif_pos (by decide)]
    show 0 + 0 + d.val = d.val
    omega

theorem taken_at (v : FVec Ideal S100000x128 .f32) (d : Fin 128) : taken v I (ix3 r i d) = v (ix2 n d) := by
  unfold taken
  pointwise
  rw [inside_at I r i n h, gather_at I r i n h v (wrapped I) (wrapped_at I r i n h 0) d]
  rfl

end Take

theorem combined_at (y : FVec Ideal S1024x64x128 .f32) (w : FVec Ideal S1024x64 .f32) (r : Fin 1024) (d : Fin 128) :
    combined y w (ix2 r d) = ∑ i : Fin 64, (y (ix3 r i d) : EReal) * (w (ix2 r i) : EReal) := by
  unfold combined
  pointwise

/-- Sorting by value, larger first, leaves at place `i` of a row the entry that is `i`th from the top. -/
theorem top_at (x : FVec Ideal S1024x100000 .f32) (r : Fin 1024) (p : ℕ → Fin 100000) (hp : IsTop (fun n => (x (ix2 r n) : EReal)) Fin.val 64 p) (i : Fin 64) :
    (top x).1 (ix2 r i) = x (ix2 r (p i)) ∧ (top x).2 (ix2 r i) = BitVec.ofNat 32 (p i).val := by
  have key : sortedFrom (fun k k' => FloatOps.cmpfTotal CmpDirection.gt (x (ix2 r k)) (x (ix2 r k')) == 1#1) (i.castLE (by omega)) = p i := by
    rw [← sortedFrom_of_isTop hp (by omega) i]
    refine congrArg (fun g => sortedFrom g (i.castLE (by omega))) (funext fun a => funext fun b => ?_)
    show (BitVec.ofBool (decide ((x (ix2 r b) : EReal) < x (ix2 r a))) == 1#1) = decide ((x (ix2 r b) : EReal) < x (ix2 r a))
    cases decide ((x (ix2 r b) : EReal) < x (ix2 r a)) <;> rfl
  unfold top Host.topK
  dsimp only
  unfold Host.sort2
  pointwise
  have hi : i.val < 100000 := by omega
  have along : ∀ k : Fin 100000, Shape.Idx.along (s := S1024x100000) (ix2 r ⟨i.val, hi⟩) 1 k = ix2 r k := by
    intro k
    funext a
    match a with
    | ⟨0, _⟩ => rfl
    | ⟨1, _⟩ => rfl
  have e : sortedFrom (fun k k' : Fin 100000 => FloatOps.cmpfTotal CmpDirection.gt (x (Shape.Idx.along (s := S1024x100000) (ix2 r ⟨i.val, hi⟩) 1 k))
      (x (Shape.Idx.along (s := S1024x100000) (ix2 r ⟨i.val, hi⟩) 1 k')) == 1#1) ⟨i.val, hi⟩ = p i := by
    rw [← key]
    refine congrArg (fun g => sortedFrom g ⟨i.val, hi⟩) (funext fun a => funext fun b => ?_)
    rw [along, along]
  have fin : ∀ k : Fin 100000, k = p i → x (Shape.Idx.along (s := S1024x100000) (ix2 r ⟨i.val, hi⟩) 1 k) = x (ix2 r (p i))
      ∧ BitVec.ofNat 32 (Shape.Idx.along (s := S1024x100000) (ix2 r ⟨i.val, hi⟩) 1 k 1).val = BitVec.ofNat 32 (p i).val := by
    rintro k rfl
    rw [along]
    exact ⟨rfl, rfl⟩
  exact fin _ e

/-- The weights of a row's first sixty-four scores. -/
theorem weights_at (x : FVec Ideal S1024x100000 .f32) (r : Fin 1024) (p : ℕ → Fin 100000) (hp : IsTop (fun n => (x (ix2 r n) : EReal)) Fin.val 64 p) (i : Fin 64) :
    softmax (top x).1 (ix2 r i) = Ideal.div (Ideal.exp ((x (ix2 r (p i)) : EReal) - x (ix2 r (p 0))))
      (∑ j : Fin 64, Ideal.exp ((x (ix2 r (p j)) : EReal) - x (ix2 r (p 0)))) := by
  have v : ∀ j : Fin 64, (top x).1 (ix2 r j) = x (ix2 r (p j)) := fun j => (top_at x r p hp j).1
  have large : ∀ j : Fin 64, ((top x).1 (ix2 r j) : EReal) ≤ (top x).1 (ix2 r 0) := by
    intro j
    rw [v, v]
    rcases (hp 0 (by omega)).2 (p j) (fun k hk => absurd hk (Nat.not_lt_zero k)) with h | h
    · exact le_of_lt h
    · exact le_of_eq h.1
  rw [softmax_at _ r large]
  simp only [v]
  rfl

/-- The weighted rows of a query, summed. -/
theorem rows_at (x : FVec Ideal S1024x100000 .f32) (y : FVec Ideal S100000x128 .f32) (w : FVec Ideal S1024x64 .f32) (r : Fin 1024) (d : Fin 128)
    (p : ℕ → Fin 100000) (hp : IsTop (fun n => (x (ix2 r n) : EReal)) Fin.val 64 p) :
    combined (taken y (top x).2) w (ix2 r d) = ∑ i : Fin 64, (y (ix2 (p i) d) : EReal) * (w (ix2 r i) : EReal) :=
  (combined_at _ w r d).trans (Finset.sum_congr rfl fun i _ =>
    congrArg (fun z : EReal => z * (w (ix2 r i) : EReal)) (taken_at _ r i (p i) (top_at x r p hp i).2 y d))

theorem out0_eq (m : (ℓ : Loc nD τ sig) → Buf (Elt Ideal) ℓ) (c : Dev nD) :
    res_out0 m c = combined (taken (m (c, main_arg2)) (top (scores (m (c, main_arg0)) (m (c, main_arg1)))).2) (softmax (top (scores (m (c, main_arg0)) (m (c, main_arg1)))).1) := by
  unfold res_out0 res_main_v17
  rfl

/-- The reference runs, and leaves these results. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17)
        = combined (taken (m (c, main_arg2)) (top (scores (m (c, main_arg0)) (m (c, main_arg1)))).2) (softmax (top (scores (m (c, main_arg0)) (m (c, main_arg1)))).1)
      ∧ r.2.mem ((c.tc : Thread nD τ).loc main_indices) = (top (scores (m (c, main_arg0)) (m (c, main_arg1)))).2
      ∧ r.2.mem ((c.tc : Thread nD τ).loc main_v12) = softmax (top (scores (m (c, main_arg0)) (m (c, main_arg1)))).1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (out0_eq m c), (h c).2.1.trans rfl, (h c).2.2.1.trans rfl, (h c).2.2.2⟩) (run m ρ)

end Cert.ReferenceIdeal.Value

end

end
-- ==== Proof.lean ====
module

public import proofs.«01_k».proof.Defs
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Finite
public import proofs.«01_k».proof.Proof.Chain
public import proofs.«01_k».proof.Proof.Reference
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

/-- Under the precondition no score is minus infinity. -/
theorem scores_finite (m : (ℓ : Loc Cert.KernelIdeal.nD Cert.KernelIdeal.τ Cert.KernelIdeal.sig) → Buf (Elt Ideal) ℓ) (h : Cert.Pre_KernelIdeal_finite m)
    (c : Dev Cert.KernelIdeal.nD) (r : Fin 1024) (n : Fin 100000) :
    Cert.KernelIdeal.Gen.score (Cert.KernelIdeal.Gen.Qm m c) (Cert.KernelIdeal.Gen.Km m c) r n ≠ ⊥ := by
  obtain ⟨hq, hk⟩ := Cert.Pre_finite.real_of _ _ _ (h c)
  exact Cert.Pre_finite.sum_ne_bot _ _ (fun x => hq r x) (fun x => hk n x)

open Cert.KernelIdeal in
/-- The kernel runs, and leaves what its last call left. -/
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_v8) = Gen.U8 m c main_v8
      ∧ r.2.mem ((c.tc : Thread nD τ).loc main_v7_0) = Gen.U7 m c main_v7_0
      ∧ r.2.mem ((c.tc : Thread nD τ).loc main_v7_1) = Gen.U7 m c main_v7_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine (θ_run _ _ _).mono (fun r hr => ⟨fun c => ?_, hr.2⟩)
    (Gen.run_all m g (Gen.words3 m) (Gen.words5 m))
  have at_ : ∀ b : Ref sig .tc, (Proc.devRef .tc b) ∈ Pipeline.ucRefs τ sig → r.2.mem ((c.tc : Thread nD τ).loc b) = Gen.U8 m c b := fun b hb => hr.1 c _ hb
  have mem : ∀ b : Ref sig .tc, (Proc.devRef .tc b : DevRef τ sig).isScoped = false → (Proc.devRef .tc b : DevRef τ sig) ∈ Pipeline.ucRefs τ sig := by
    intro b hb
    exact Finset.mem_filter.mpr ⟨StableHlo.devRef_mem_tcRefs b, by simp [hb]⟩
  exact ⟨at_ main_v8 (mem _ (by decide)), (at_ main_v7_0 (mem _ (by decide))).trans (Gen.U8_v7_0 m c),
    (at_ main_v7_1 (mem _ (by decide))).trans (Gen.U8_v7_1 m c), (at_ main_arg0 (mem _ (by decide))).trans (Gen.U8_arg0 m c),
    (at_ main_arg1 (mem _ (by decide))).trans (Gen.U8_arg1 m c), (at_ main_arg2 (mem _ (by decide))).trans (Gen.U8_arg2 m c)⟩

open Cert.ReferenceIdeal in
/-- The reference runs, leaving its arguments; it has no semaphores. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_mono (Value.run_results m g) fun r hr => ⟨fun c => (hr c).2.2.2, sem_eq_zero_of_no_sems rfl r.2⟩

section Equal
open Cert.KernelIdeal.Gen Cert.ReferenceIdeal.Value

variable (m : (ℓ : Loc Cert.KernelIdeal.nD Cert.KernelIdeal.τ Cert.KernelIdeal.sig) → Buf (Elt Ideal) ℓ) (h : Cert.Pre_KernelIdeal_finite m)
  (c : Dev Cert.KernelIdeal.nD)
include h

/-- A row's first sixty-four by the kernel are its first sixty-four by the reference. -/
theorem picks (r : Fin 1024) : ∃ n : ℕ → Fin 100000, Cert.Top.IsTop (fun j => (scores (Qm m c) (Km m c) (ix2 r j) : EReal)) Fin.val 64 n
    ∧ (∀ i : Fin 64, (U7 m c Cert.KernelIdeal.main_v7_0 : Cert.KernelIdeal.S1024x64.Idx → BitVec 32) (ix2 r i) = BitVec.ofNat 32 (n i.val).val)
    ∧ ∀ i : Fin 64, Wm m c (ix2 r i) = soft (fun j => (scores (Qm m c) (Km m c) (ix2 r (n j.val)) : EReal)) i := by
  have e : score (Qm m c) (Km m c) r = fun j => (scores (Qm m c) (Km m c) (ix2 r j) : EReal) := funext fun j => (scores_at _ _ r j).symm
  obtain ⟨n, h1, h2, h3⟩ := chosen m c r (maxima m c r (scores_finite m h c r))
  rw [e] at h1 h3
  exact ⟨n, h1, h2, h3⟩

theorem indices_eq : (top (scores (Qm m c) (Km m c))).2 = U7 m c Cert.KernelIdeal.main_v7_0 := by
  refine funext fun (j : Cert.KernelIdeal.S1024x64.Idx) => ?_
  rw [eq_ix2 j]
  obtain ⟨n, h1, h2, h3⟩ := picks m h c (j 0)
  exact (top_at _ (j 0) n h1 (j 1)).2.trans (h2 (j 1)).symm

theorem weights_eq : softmax (top (scores (Qm m c) (Km m c))).1 = Wm m c := by
  refine funext fun (j : Cert.KernelIdeal.S1024x64.Idx) => ?_
  rw [eq_ix2 j]
  obtain ⟨n, h1, h2, h3⟩ := picks m h c (j 0)
  exact (weights_at _ (j 0) n h1 (j 1)).trans (h3 (j 1)).symm

theorem rows_eq : combined (taken (Vm m c) (top (scores (Qm m c) (Km m c))).2) (softmax (top (scores (Qm m c) (Km m c))).1) = Rm m c := by
  refine funext fun (j : Cert.KernelIdeal.S1024x128.Idx) => ?_
  rw [weights_eq m h c, eq_ix2 j]
  obtain ⟨n, h1, h2, h3⟩ := picks m h c (j 0)
  refine (rows_at _ _ _ (j 0) (j 1) n h1).trans (Eq.trans ?_ (weighted m c (j 0) (j 1) n h2).symm)
  exact Finset.sum_congr rfl fun i _ => mul_comm (Vm m c (ix2 (n i.val) (j 1)) : EReal) (Wm m c (ix2 (j 0) i))

end Equal

theorem claim : Cert.Claim := by
  refine ⟨Cert.KernelIdeal.Gen.facts, Cert.ReferenceIdeal.Gen.facts, Cert.Pre_finite.Gen.facts, ?_, ?_, ?_, ?_, ?_⟩
  · exact fun m g _ => θ_run_mono (kernel_run m g) fun r hr => ⟨fun c => (hr.1 c).2.2.2, hr.2⟩
  · exact fun m g _ => θ_run_mono (kernel_run m g) fun r hr => ⟨fun c => (hr.1 c).2.2.2, hr.2⟩
  · exact fun m g _ => reference_run m g
  · exact fun m g _ => reference_run m g
  · intro m g m' g' hpre hagree
    refine ⟨fun c => Cert.KernelIdeal.Gen.U8 m c Cert.KernelIdeal.main_v8, fun c => Cert.KernelIdeal.Gen.U7 m c Cert.KernelIdeal.main_v7_0,
      fun c => Cert.KernelIdeal.Gen.U7 m c Cert.KernelIdeal.main_v7_1, ?_, ?_⟩
    · exact (θ_run _ _ _).mono (fun r hr => hr.1) (kernel_run m g)
    · refine (θ_run _ _ _).mono (fun r hr c => ?_) (Cert.ReferenceIdeal.Value.run_results m' g')
      obtain ⟨a0, a1, a2⟩ := hagree c
      obtain ⟨r0, r1, r2, hr⟩ := hr c
      have a0 : m' (c, Cert.ReferenceIdeal.main_arg0) = Cert.KernelIdeal.Gen.Qm m c := a0
      have a1 : m' (c, Cert.ReferenceIdeal.main_arg1) = Cert.KernelIdeal.Gen.Km m c := a1
      have a2 : m' (c, Cert.ReferenceIdeal.main_arg2) = Cert.KernelIdeal.Gen.Vm m c := a2
      rw [a0, a1, a2] at r0
      rw [a0, a1] at r1 r2
      exact ⟨r0.trans (rows_eq m hpre c), r1.trans (indices_eq m hpre c), r2.trans (weights_eq m hpre c), hr⟩

end Cert.Proof

end

end
